-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_v193) = v1 c
          ∧ r.2.mem ((c.tc : Thread Cert.ReferenceIdeal.nD Cert.ReferenceIdeal.τ).loc Cert.ReferenceIdeal.main_v196) = v2 c
          ∧ r.2.mem ((c.tc : Thread Cert.ReferenceIdeal.nD Cert.ReferenceIdeal.τ).loc Cert.ReferenceIdeal.main_v224) = v3 c
          ∧ r.2.mem ((c.tc : Thread Cert.ReferenceIdeal.nD Cert.ReferenceIdeal.τ).loc Cert.ReferenceIdeal.main_v233) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "inv_count" .f32 0x39A72F05#32 ((1 / 3136 : ℝ) : EReal)

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hKernel3 : Cert.Kernel3.Facts) (hKernel3Ideal : Cert.Kernel3Ideal.Facts) (hReference3Ideal : Cert.Reference3Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S4x2x96x8x28x28 : Shape := ⟨6, ![4, 2, 96, 8, 28, 28]⟩
abbrev S96x96x3x3x3 : Shape := ⟨5, ![96, 96, 3, 3, 3]⟩
abbrev S96x96x1x1x1 : Shape := ⟨5, ![96, 96, 1, 1, 1]⟩
abbrev S_ : Shape := ⟨0, ![]⟩

class Facts : Prop where
  bcast_S_S4x2x96x8x28x28 : S_.BroadcastsInDim S4x2x96x8x28x28 (![] : Fin 0 → Fin S4x2x96x8x28x28.rank)
  reducesTo_S4x2x96x8x28x28_S_d0_1_2_3_4_5 : S4x2x96x8x28x28.ReducesTo [0, 1, 2, 3, 4, 5] S_
  h_S_ : 0 < S_.numel
  bcast_S_S96x96x3x3x3 : S_.BroadcastsInDim S96x96x3x3x3 (![] : Fin 0 → Fin S96x96x3x3x3.rank)
  reducesTo_S96x96x3x3x3_S_d0_1_2_3_4 : S96x96x3x3x3.ReducesTo [0, 1, 2, 3, 4] S_

variable [Facts]

def fn {F : FTy → Type} [FloatOps F] (main_arg0 : FVec F S4x2x96x8x28x28 .f32) (main_arg1 : FVec F S96x96x3x3x3 .f32) (main_arg2 : FVec F S96x96x1x1x1 .f32) : IVec S_ 1 :=
  let main_v0 : FVec F S4x2x96x8x28x28 .f32 := Host.absf main_arg0
  let main_cst : FVec F S_ .f32 := constant S_ .f32 0x7F800000#32
  let main_v1 : FVec F S4x2x96x8x28x28 .f32 := broadcastInDim S4x2x96x8x28x28 ![] bcast_S_S4x2x96x8x28x28 main_cst
  let main_v2 : IVec S4x2x96x8x28x28 1 := cmpf .olt main_v0 main_v1
  let main_c : IVec S_ 1 := constantI S_ 1 1#1
  let main_v3 : IVec S_ 1 := (fun x v => Host.reduce IntOp.andi x v reducesTo_S4x2x96x8x28x28_S_d0_1_2_3_4_5 h_S_) main_v2 main_c
  let main_v4 : FVec F S96x96x3x3x3 .f32 := Host.absf main_arg1
  let main_cst_0 : FVec F S_ .f32 := constant S_ .f32 0x7F800000#32
  let main_v5 : FVec F S96x96x3x3x3 .f32 := broadcastInDim S96x96x3x3x3 ![] bcast_S_S96x96x3x3x3 main_cst_0
  let main_v6 : IVec S96x96x3x3x3 1 := cmpf .olt main_v4 main_v5
  let main_c_1 : IVec S_ 1 := constantI S_ 1 1#1
  let main_v7 : IVec S_ 1 := (fun x v => Host.reduce IntOp.andi x v reducesTo_S96x96x3x3x3_S_d0_1_2_3_4 h_S_) main_v6 main_c_1
  let main_v8 : IVec S_ 1 := andi main_v3 main_v7
  main_v8
-- ==== Pre_finite3.lean ====
abbrev S4x2x8x4x196x96 : Shape := ⟨6, ![4, 2, 8, 4, 196, 96]⟩
abbrev S2x4x2x96 : Shape := ⟨4, ![2, 4, 2, 96]⟩
abbrev S96 : Shape := ⟨1, ![96]⟩
abbrev S_ : Shape := ⟨0, ![]⟩
abbrev S2x96 : Shape := ⟨2, ![2, 96]⟩
abbrev S1x96 : Shape := ⟨2, ![1, 96]⟩

class Facts : Prop where
  bcast_S_S4x2x8x4x196x96 : S_.BroadcastsInDim S4x2x8x4x196x96 (![] : Fin 0 → Fin S4x2x8x4x196x96.rank)
  reducesTo_S4x2x8x4x196x96_S_d0_1_2_3_4_5 : S4x2x8x4x196x96.ReducesTo [0, 1, 2, 3, 4, 5] S_
  h_S_ : 0 < S_.numel
  bcast_S_S2x4x2x96 : S_.BroadcastsInDim S2x4x2x96 (![] : Fin 0 → Fin S2x4x2x96.rank)
  reducesTo_S2x4x2x96_S_d0_1_2_3 : S2x4x2x96.ReducesTo [0, 1, 2, 3] S_
  bcast_S_S96 : S_.BroadcastsInDim S96 (![] : Fin 0 → Fin S96.rank)
  reducesTo_S96_S_d0 : S96.ReducesTo [0] S_
  reducesTo_S2x4x2x96_S2x96_d0_1 : S2x4x2x96.ReducesTo [0, 1] S2x96
  slices_S2x96_S1x96_0_0 : S2x96.Slices ![0, 0] S1x96
  shapeCasts_S1x96_S96 : S1x96.ShapeCasts S96
  slices_S2x96_S1x96_1_0 : S2x96.Slices ![1, 0] S1x96

variable [Facts]

def fn_part2 {F : FTy → Type} [FloatOps F] (main_v18 : IVec S_ 1) (main_v33 : IVec S96 1) (main_c_11 : IVec S_ 1) : IVec S_ 1 :=
  let main_v34 : IVec S_ 1 := (fun x v => Host.reduce IntOp.andi x v reducesTo_S96_S_d0 h_S_) main_v33 main_c_11
  let main_v35 : IVec S_ 1 := andi main_v18 main_v34
  main_v35

def fn_part1 {F : FTy → Type} [FloatOps F] (main_arg1 : FVec F S2x4x2x96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_cst_6 : FVec F S_ .f32 := constant S_ .f32 0x00000000#32
  let main_v19 : FVec F S2x96 .f32 := (fun x v => Host.reduceAdd x v reducesTo_S2x4x2x96_S2x96_d0_1 h_S_) main_arg1 main_cst_6
  let main_v20 : FVec F S1x96 .f32 := (extractStridedSlice S1x96 ![0, 0] · slices_S2x96_S1x96_0_0) main_v19
  let main_v21 : FVec F S96 .f32 := shapeCast S96 main_v20 shapeCasts_S1x96_S96
  let main_v22 : FVec F S1x96 .f32 := (extractStridedSlice S1x96 ![1, 0] · slices_S2x96_S1x96_1_0) main_v19
  let main_v23 : FVec F S96 .f32 := shapeCast S96 main_v22 shapeCasts_S1x96_S96
  let main_cst_7 : FVec F S_ .f32 := constant S_ .f32 0x47440000#32
  let main_v24 : FVec F S96 .f32 := broadcastInDim S96 ![] bcast_S_S96 main_cst_7
  let main_v25 : FVec F S96 .f32 := Host.divf main_v21 main_v24
  let main_cst_8 : FVec F S_ .f32 := constant S_ .f32 0x47440000#32
  let main_v26 : FVec F S96 .f32 := broadcastInDim S96 ![] bcast_S_S96 main_cst_8
  let main_v27 : FVec F S96 .f32 := Host.divf main_v23 main_v26
  let main_v28 : FVec F S96 .f32 := mulf main_v25 main_v25
  let main_v29 : FVec F S96 .f32 := subf main_v27 main_v28
  let main_cst_9 : FVec F S_ .f32 := constant S_ .f32 0x3727C5AC#32
  let main_v30 : FVec F S96 .f32 := broadcastInDim S96 ![] bcast_S_S96 main_cst_9
  let main_v31 : FVec F S96 .f32 := addf main_v29 main_v30
  let main_cst_10 : FVec F S_ .f32 := constant S_ .f32 0x00000000#32
  let main_v32 : FVec F S96 .f32 := broadcastInDim S96 ![] bcast_S_S96 main_cst_10
  let main_v33 : IVec S96 1 := cmpf .ogt main_v31 main_v32
  let main_c_11 : IVec S_ 1 := constantI S_ 1 1#1
  fn_part2 (F := F) main_v18 main_v33 main_c_11

def fn {F : FTy → Type} [FloatOps F] (main_arg0 : FVec F S4x2x8x4x196x96 .f32) (main_arg1 : FVec F S2x4x2x96 .f32) (main_arg2 : FVec F S96 .f32) (main_arg3 : FVec F S96 .f32) : IVec S_ 1 :=
  let main_v0 : FVec F S4x2x8x4x196x96 .f32 := Host.absf main_arg0
  let main_cst : FVec F S_ .f32 := constant S_ .f32 0x7F800000#32
  let main_v1 : FVec F S4x2x8x4x196x96 .f32 := broadcastInDim S4x2x8x4x196x96 ![] bcast_S_S4x2x8x4x196x96 main_cst
  let main_v2 : IVec S4x2x8x4x196x96 1 := cmpf .olt main_v0 main_v1
  let main_c : IVec S_ 1 := constantI S_ 1 1#1
  let main_v3 : IVec S_ 1 := (fun x v => Host.reduce IntOp.andi x v reducesTo_S4x2x8x4x196x96_S_d0_1_2_3_4_5 h_S_) main_v2 main_c
  let main_v4 : FVec F S2x4x2x96 .f32 := Host.absf main_arg1
  let main_cst_0 : FVec F S_ .f32 := constant S_ .f32 0x7F800000#32
  let main_v5 : FVec F S2x4x2x96 .f32 := broadcastInDim S2x4x2x96 ![] bcast_S_S2x4x2x96 main_cst_0
  let main_v6 : IVec S2x4x2x96 1 := cmpf .olt main_v4 main_v5
  let main_c_1 : IVec S_ 1 := constantI S_ 1 1#1
  let main_v7 : IVec S_ 1 := (fun x v => Host.reduce IntOp.andi x v reducesTo_S2x4x2x96_S_d0_1_2_3 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg1 main_v13 main_v16
-- ==== Kernel.lean ====
abbrev S4x2x96x8x28x28 : Shape := ⟨6, ![4, 2, 96, 8, 28, 28]⟩
abbrev S96x96x3x3x3 : Shape := ⟨5, ![96, 96, 3, 3, 3]⟩
abbrev S96x96x1x1x1 : Shape := ⟨5, ![96, 96, 1, 1, 1]⟩
abbrev S96x96x1x3x3 : Shape := ⟨5, ![96, 96, 1, 3, 3]⟩
abbrev S96x96x3x3 : Shape := ⟨4, ![96, 96, 3, 3]⟩
abbrev S_ : Shape := ⟨0, ![]⟩
abbrev S96x96 : Shape := ⟨2, ![96, 96]⟩
abbrev S1 : Shape := ⟨1, ![1]⟩
abbrev S3 : Shape := ⟨1, ![3]⟩
abbrev S3x3x3x96x96 : Shape := ⟨5, ![3, 3, 3, 96, 96]⟩
abbrev S27x96x96 : Shape := ⟨3, ![27, 96, 96]⟩
abbrev S8x96x8x28x28 : Shape := ⟨5, ![8, 96, 8, 28, 28]⟩
abbrev S8x8x28x28x96 : Shape := ⟨5, ![8, 8, 28, 28, 96]⟩
abbrev S8x10x30x30x96 : Shape := ⟨5, ![8, 10, 30, 30, 96]⟩
abbrev S4x2x8x4x196x96 : Shape := ⟨6, ![4, 2, 8, 4, 196, 96]⟩
abbrev S8x8x6x96 : Shape := ⟨4, ![8, 8, 6, 96]⟩
abbrev S8x8x8x96 : Shape := ⟨4, ![8, 8, 8, 96]⟩
abbrev S1x10x30x30x96 : Shape := ⟨5, ![1, 10, 30, 30, 96]⟩
abbrev S1x1x4x1x196x96 : Shape := ⟨6, ![1, 1, 4, 1, 196, 96]⟩
abbrev S1x1x6x96 : Shape := ⟨4, ![1, 1, 6, 96]⟩
abbrev S1x1x8x96 : Shape := ⟨4, ![1, 1, 8, 96]⟩
abbrev S784x96 : Shape := ⟨2, ![784, 96]⟩
abbrev S1x1x28x28x96 : Shape := ⟨5, ![1, 1, 28, 28, 96]⟩
abbrev S28x28x96 : Shape := ⟨3, ![28, 28, 96]⟩
abbrev S1x96x96 : Shape := ⟨3, ![1, 96, 96]⟩
abbrev S2x14x2x14x96 : Shape := ⟨5, ![2, 14, 2, 14, 96]⟩
abbrev S2x2x14x14x96 : Shape := ⟨5, ![2, 2, 14, 14, 96]⟩
abbrev S4x196x96 : Shape := ⟨3, ![4, 196, 96]⟩
abbrev S96 : Shape := ⟨1, ![96]⟩
abbrev S1x1x1x96 : Shape := ⟨4, ![1, 1, 1, 96]⟩
abbrev S4x96 : Shape := ⟨2, ![4, 96]⟩
abbrev S1x1x4x96 : Shape := ⟨4, ![1, 1, 4, 96]⟩

abbrev nBuf : Space → Nat
  | .hbm => 37
  | .vmem => 14
  | .smem => 0
  | _ => 0

abbrev bufTy : (tb : Table) → Fin (tcTables nBuf tb) → BufTy
  | .hbm, ⟨0, _⟩ => ⟨S4x2x96x8x28x28, .f32⟩
  | .hbm, ⟨1, _⟩ => ⟨S96x96x3x3x3, .f32⟩
  | .hbm, ⟨2, _⟩ => ⟨S96x96x1x1x1, .f32⟩
  | .hbm, ⟨3, _⟩ => ⟨S96x96x1x3x3, .f32⟩
  | .hbm, ⟨4, _⟩ => ⟨S96x96x3x3, .f32⟩
  | .hbm, ⟨5, _⟩ => ⟨S_, .f32⟩
  | .hbm, ⟨6, _⟩ => ⟨S96x96, .f32⟩
  | .hbm, ⟨7, _⟩ => ⟨S96x96x1x3x3, .f32⟩
  | .hbm, ⟨8, _⟩ => ⟨S96x96x3x3, .f32⟩
  | .hbm, ⟨9, _⟩ => ⟨S_, .f32⟩
  | .hbm, ⟨10, _⟩ => ⟨S96x96, .f32⟩
  | .hbm, ⟨11, _⟩ => ⟨S96x96, .f32⟩
  | .hbm, ⟨12, _⟩ => ⟨S_, .f32⟩
  | .hbm, ⟨13, _⟩ => ⟨S96x96, .f32⟩
  | .hbm, ⟨14, _⟩ => ⟨S96x96, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S3, .i32⟩
  | .hbm, ⟨22, _⟩ => ⟨S96x96x3x3x3, .f32⟩
  | .hbm, ⟨23, _⟩ => ⟨S3x3x3x96x96, .f32⟩
  | .hbm, ⟨24, _⟩ => ⟨S27x96x96, .f32⟩
  | .hbm, ⟨25, _⟩ => ⟨S96x96, .f32⟩
  | .hbm, ⟨26, _⟩ => ⟨S96x96, .f32⟩
  | .hbm, ⟨27, _⟩ => ⟨S8x96x8x28x28, .f32⟩
  | .hbm, ⟨28, _⟩ => ⟨S8x8x28x28x96, .f32⟩
  | .hbm, ⟨29, _⟩ => ⟨S_, .i32⟩
  | .hbm, ⟨30, _⟩ => ⟨S_, .f32⟩
  | .hbm, ⟨31, _⟩ => ⟨S8x10x30x30x96, .f32⟩
  | .hbm, ⟨32, _⟩ => ⟨S4x2x8x4x196x96, .f32⟩
  | .hbm, ⟨33, _⟩ => ⟨S4x2x8x4x196x96, .f32⟩
  | .hbm, ⟨34, _⟩ => ⟨S4x2x8x4x196x96, .f32⟩
  | .hbm, ⟨35, _⟩ => ⟨S8x8x6x96, .f32⟩
  | .hbm, ⟨36, _⟩ => ⟨S8x8x8x96, .f32⟩
  | .local _ .vmem, ⟨0, _⟩ => ⟨S1x10x30x30x96, .f32⟩
  | .local _ .vmem, ⟨1, _⟩ => ⟨S1x10x30x30x96, .f32⟩
  | .local _ .vmem, ⟨2, _⟩ => ⟨S27x96x96, .f32⟩
  | .local _ .vmem, ⟨3, _⟩ => ⟨S96x96, .f32⟩
  | .local _ .vmem, ⟨4, _⟩ => ⟨S1x1x4x1x196x96, .f32⟩
  | .local _ .vmem, ⟨5, _⟩ => ⟨S1x1x4x1x196x96, .f32⟩
  | .local _ .vmem, ⟨6, _⟩ => ⟨S1x1x4x1x196x96, .f32⟩
  | .local _ .vmem, ⟨7, _⟩ => ⟨S1x1x4x1x196x96, .f32⟩
  | .local _ .vmem, ⟨8, _⟩ => ⟨S1x1x4x1x196x96, .f32⟩
  | .local _ .vmem, ⟨9, _⟩ => ⟨S1x1x4x1x196x96, .f32⟩
  | .local _ .vmem, ⟨10, _⟩ => ⟨S1x1x6x96, .f32⟩
  | .local _ .vmem, ⟨11, _⟩ => ⟨S1x1x6x96, .f32⟩
  | .local _ .vmem, ⟨12, _⟩ => ⟨S1x1x8x96, .f32⟩
  | .local _ .vmem, ⟨13, _⟩ => ⟨S1x1x8x96, .f32⟩
  | _, _ => ⟨S4x2x96x8x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_cst_0 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_c_2 : Ref sig .tc := ⟨.hbm, 17, rfl⟩
abbrev main_call0_v10 : Ref sig .tc := ⟨.hbm, 18, rfl⟩
abbrev main_call0_c_3 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_v16 : Ref sig .tc := ⟨.hbm, 25, rfl⟩
abbrev main_call0_v17 : Ref sig .tc := ⟨.hbm, 26, rfl⟩
abbrev main_call0_v18 : Ref sig .tc := ⟨.hbm, 27, rfl⟩
abbrev main_call0_v19 : Ref sig .tc := ⟨.hbm, 28, rfl⟩
abbrev main_call0_c_4 : Ref sig .tc := ⟨.hbm, 29, rfl⟩
abbrev main_call0_call0_v0 : Ref sig .tc := ⟨.hbm, 30, rfl⟩
abbrev main_call0_v20 : Ref sig .tc := ⟨.hbm, 31, rfl⟩
abbrev main_v0_0 : Ref sig .tc := ⟨.hbm, 32, rfl⟩
abbrev main_v0_1 : Ref sig .tc := ⟨.hbm, 33, rfl⟩
abbrev main_v0_2 : Ref sig .tc := ⟨.hbm, 34, rfl⟩
abbrev main_v0_3 : Ref sig .tc := ⟨.hbm, 35, rfl⟩
abbrev main_v0_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def k0_off1 (i : grid0.Coords) (c0_i32 : BitVec 32) : Fin 5 → Nat :=
  let c0 : Index := 0#32
  let arg1 : BitVec 32 := BitVec.ofNat 32 (i 1).val
  let v1 : BitVec 32 := Scalar.addi arg1 c0_i32
  let v2 : Index := Scalar.indexCast v1
  let c0_0 : Index := 0#32
  let c0_1 : Index := 0#32
  let c0_2 : Index := 0#32
  ![0, v2.toNat, 0, 0, 0]
def k0_off2 (i : grid0.Coords) (c0_i32_7 : BitVec 32) : Fin 5 → Nat :=
  let c0_8 : Index := 0#32
  let arg1 : BitVec 32 := BitVec.ofNat 32 (i 1).val
  let v10 : BitVec 32 := Scalar.addi arg1 c0_i32_7
  let v11 : Index := Scalar.indexCast v10
  let c0_9 : Index := 0#32
  let c1 : Index := 1#32
  let c0_10 : Index := 0#32
  ![0, v11.toNat, 0, 1, 0]
def k0_off3 (i : grid0.Coords) (c0_i32_15 : BitVec 32) : Fin 5 → Nat :=
  let c0_16 : Index := 0#32
  let arg1 : BitVec 32 := BitVec.ofNat 32 (i 1).val
  let v19 : BitVec 32 := Scalar.addi arg1 c0_i32_15
  let v20 : Index := Scalar.indexCast v19
  let c0_17 : Index := 0#32
  let c2 : Index := 2#32
  let c0_18 : Index := 0#32
  ![0, v20.toNat, 0, 2, 0]
def k0_off4 (i : grid0.Coords) (c0_i32_23 : BitVec 32) : Fin 5 → Nat :=
  let c0_24 : Index := 0#32
  let arg1 : BitVec 32 := BitVec.ofNat 32 (i 1).val
  let v28 : BitVec 32 := Scalar.addi arg1 c0_i32_23
  let v29 : Index := Scalar.indexCast v28
  let c1_25 : Index := 1#32
  let c0_26 : Index := 0#32
  let c0_27 : Index := 0#32
  ![0, v29.toNat, 1, 0, 0]
def k0_off5 (i : grid0.Coords) (c0_i32_31 : BitVec 32) : Fin 5 → Nat :=
  let c0_32 : Index := 0#32
  let arg1 : BitVec 32 := BitVec.ofNat 32 (i 1).val
  let v37 : BitVec 32 := Scalar.addi arg1 c0_i32_31
  let v38 : Index := Scalar.indexCast v37
  let c1_33 : Index := 1#32
  let c1_34 : Index := 1#32
  let c0_35 : Index := 0#32
  ![0, v38.toNat, 1, 1, 0]
def k0_off6 (i : grid0.Coords) (c0_i32_39 : BitVec 32) : Fin 5 → Nat :=
  let c0_40 : Index := 0#32
  let arg1 : BitVec 32 := BitVec.ofNat 32 (i 1).val
  let v46 : BitVec 32 := Scalar.addi arg1 c0_i32_39
  let v47 : Index := Scalar.indexCast v46
  let c1_41 : Index := 1#32
  let c2_42 : Index := 2#32
  let c0_43 : Index := 0#32
  ![0, v47.toNat, 1, 2, 0]
def k0_off7 (i : grid0.Coords) (c0_i32_47 : BitVec 32) : Fin 5 → Nat :=
  let c0_48 : Index := 0#32
  let arg1 : BitVec 32 := BitVec.ofNat 32 (i 1).val
  let v55 : BitVec 32 := Scalar.addi arg1 c0_i32_47
  let v56 : Index := Scalar.indexCast v55
  let c2_49 : Index := 2#32
  let c0_50 : Index := 0#32
  let c0_51 : Index := 0#32
  ![0, v56.toNat, 2, 0, 0]
def k0_off8 (i : grid0.Coords) (c0_i32_55 : BitVec 32) : Fin 5 → Nat :=
  let c0_56 : Index := 0#32
  let arg1 : BitVec 32 := BitVec.ofNat 32 (i 1).val
  let v64 : BitVec 32 := Scalar.addi arg1 c0_i32_55
  let v65 : Index := Scalar.indexCast v64
  let c2_57 : Index := 2#32
  let c1_58 : Index := 1#32
  let c0_59 : Index := 0#32
  ![0, v65.toNat, 2, 1, 0]
def k0_off9 (i : grid0.Coords) (c0_i32_63 : BitVec 32) : Fin 5 → Nat :=
  let c0_64 : Index := 0#32
  let arg1 : BitVec 32 := BitVec.ofNat 32 (i 1).val
  let v73 : BitVec 32 := Scalar.addi arg1 c0_i32_63
  let v74 : Index := Scalar.indexCast v73
  let c2_65 : Index := 2#32
  let c2_66 : Index := 2#32
  let c0_67 : Index := 0#32
  ![0, v74.toNat, 2, 2, 0]
def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 6 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi arg1 c4_i32
  let c0_i32_10 : BitVec 32 := 0#32
  let v28 : BitVec 1 := Scalar.cmpi .sgt arg1 c0_i32_10
  let v29 : BitVec 32 := Scalar.extui v28
  let c0_i32_11 : BitVec 32 := 0#32
  let v30 : BitVec 1 := Scalar.cmpi .slt arg1 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi arg1 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg1 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  let c0_i32_24 : BitVec 32 := 0#32
  ![v16.toNat, v26.toNat, v43.toNat, v53.toNat, c0_i32_22.toNat, c0_i32_23.toNat]

def cc0_transform_4 (i : grid0.Coords) : Fin 6 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi arg1 c4_i32
  let c0_i32_10 : BitVec 32 := 0#32
  let v28 : BitVec 1 := Scalar.cmpi .sgt arg1 c0_i32_10
  let v29 : BitVec 32 := Scalar.extui v28
  let c0_i32_11 : BitVec 32 := 0#32
  let v30 : BitVec 1 := Scalar.cmpi .slt arg1 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi arg1 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg1 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  let c0_i32_24 : BitVec 32 := 0#32
  ![v16.toNat, v26.toNat, v43.toNat, v53.toNat, c0_i32_22.toNat, c0_i32_23.toNat]

def cc0_transform_5 (i : grid0.Coords) : Fin 6 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.divsi arg1 c4_i32
  let c0_i32_10 : BitVec 32 := 0#32
  let v28 : BitVec 1 := Scalar.cmpi .sgt arg1 c0_i32_10
  let v29 : BitVec 32 := Scalar.extui v28
  let c0_i32_11 : BitVec 32 := 0#32
  let v30 : BitVec 1 := Scalar.cmpi .slt arg1 c0_i32_11
  let v31 : BitVec 32 := Scalar.extui v30
  let v32 : BitVec 32 := Scalar.subi v29 v31
  let c0_i32_12 : BitVec 32 := 0#32
  let v33 : BitVec 1 := Scalar.cmpi .sgt c4_i32 c0_i32_12
  let v34 : BitVec 32 := Scalar.extui v33
  let c0_i32_13 : BitVec 32 := 0#32
  let v35 : BitVec 1 := Scalar.cmpi .slt c4_i32 c0_i32_13
  let v36 : BitVec 32 := Scalar.extui v35
  let v37 : BitVec 32 := Scalar.subi v34 v36
  let v38 : BitVec 1 := Scalar.cmpi .ne v32 v37
  let v39 : BitVec 32 := Scalar.remsi arg1 c4_i32
  let c0_i32_14 : BitVec 32 := 0#32
  let v40 : BitVec 1 := Scalar.cmpi .ne v39 c0_i32_14
  let v41 : BitVec 1 := Scalar.andi v38 v40
  let c1_i32_15 : BitVec 32 := 1#32
  let v42 : BitVec 32 := Scalar.subi v27 c1_i32_15
  let v43 : BitVec 32 := Scalar.select v41 v42 v27
  let c4_i32_16 : BitVec 32 := 4#32
  let c0_i32_17 : BitVec 32 := 0#32
  let v44 : BitVec 1 := Scalar.cmpi .eq c4_i32_16 c0_i32_17
  let c1_i32_18 : BitVec 32 := 1#32
  let v45 : BitVec 32 := Scalar.select v44 c1_i32_18 c4_i32_16
  let v46 : BitVec 32 := Scalar.remsi arg1 v45
  let c0_i32_19 : BitVec 32 := 0#32
  let v47 : BitVec 1 := Scalar.cmpi .ne v46 c0_i32_19
  let c0_i32_20 : BitVec 32 := 0#32
  let v48 : BitVec 1 := Scalar.cmpi .slt v46 c0_i32_20
  let c0_i32_21 : BitVec 32 := 0#32
  let v49 : BitVec 1 := Scalar.cmpi .slt v45 c0_i32_21
  let v50 : BitVec 1 := Scalar.xori v48 v49
  let v51 : BitVec 1 := Scalar.andi v50 v47
  let v52 : BitVec 32 := Scalar.addi v46 v45
  let v53 : BitVec 32 := Scalar.select v51 v52 v46
  let c0_i32_22 : BitVec 32 := 0#32
  let c0_i32_23 : BitVec 32 := 0#32
  let c0_i32_24 : BitVec 32 := 0#32
  ![v16.toNat, v26.toNat, v43.toNat, v53.toNat, c0_i32_22.toNat, c0_i32_23.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x10x30x30x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S27x96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x4x1x196x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4x1x196x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x4x1x196x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x2x96x8x28x28 : Shape := ⟨6, ![4, 2, 96, 8, 28, 28]⟩
abbrev S96x96x3x3x3 : Shape := ⟨5, ![96, 96, 3, 3, 3]⟩
abbrev S96x96x1x1x1 : Shape := ⟨5, ![96, 96, 1, 1, 1]⟩
abbrev S8x96x8x28x28 : Shape := ⟨5, ![8, 96, 8, 28, 28]⟩
abbrev S_ : Shape := ⟨0, ![]⟩
abbrev S8x96x10x30x30 : Shape := ⟨5, ![8, 96, 10, 30, 30]⟩
abbrev S96x96 : Shape := ⟨2, ![96, 96]⟩
abbrev S8x8x28x28x96 : Shape := ⟨5, ![8, 8, 28, 28, 96]⟩
abbrev S96x96x1x3x3 : Shape := ⟨5, ![96, 96, 1, 3, 3]⟩
abbrev S96x96x3x3 : Shape := ⟨4, ![96, 96, 3, 3]⟩
abbrev S4x2x96x2x4x2x14x2x14 : Shape := ⟨9, ![4, 2, 96, 2, 4, 2, 14, 2, 14]⟩
abbrev S4x2x2x2x2x4x14x14x96 : Shape := ⟨9, ![4, 2, 2, 2, 2, 4, 14, 14, 96]⟩
abbrev S4x2x8x4x196x96 : Shape := ⟨6, ![4, 2, 8, 4, 196, 96]⟩
abbrev S8x96x8x784 : Shape := ⟨4, ![8, 96, 8, 784]⟩
abbrev S8x96x8 : Shape := ⟨3, ![8, 96, 8]⟩
abbrev S8x8x96 : Shape := ⟨3, ![8, 8, 96]⟩
abbrev S8x8x1x96 : Shape := ⟨4, ![8, 8, 1, 96]⟩
abbrev S8x8x6x96 : Shape := ⟨4, ![8, 8, 6, 96]⟩
abbrev S4x2x8x4x96 : Shape := ⟨5, ![4, 2, 8, 4, 96]⟩
abbrev S4x2x2x4x4x96 : Shape := ⟨6, ![4, 2, 2, 4, 4, 96]⟩
abbrev S8x8x4x96 : Shape := ⟨4, ![8, 8, 4, 96]⟩
abbrev S8x8x8x96 : Shape := ⟨4, ![8, 8, 8, 96]⟩

abbrev nBuf : Space → Nat
  | .hbm => 257
  | .vmem => 0
  | .smem => 0
  | _ => 0

abbrev hbmTy0_0 (i : Nat) : BufTy := match i % 128 with
  | 0 => ⟨S4x2x96x8x28x28, .f32⟩
  | 1 => ⟨S96x96x3x3x3, .f32⟩
  | 2 => ⟨S96x96x1x1x1, .f32⟩
  | 3 => ⟨S8x96x8x28x28, .f32⟩
  | 4 => ⟨S_, .i32⟩
  | 5 => ⟨S_, .f32⟩
  | 6 => ⟨S8x96x10x30x30, .f32⟩
  | 7 => ⟨S_, .f32⟩
  | 8 => ⟨S8x96x8x28x28, .f32⟩
  | 9 => ⟨S96x96x1x1x1, .f32⟩
  | 10 => ⟨S96x96, .f32⟩
  | 11 => ⟨S8x96x8x28x28, .f32⟩
  | 12 => ⟨S8x8x28x28x96, .f32⟩
  | 13 => ⟨S8x96x8x28x28, .f32⟩
  | 14 => ⟨S8x96x8x28x28, .f32⟩
  | 15 => ⟨S96x96x1x1x1, .f32⟩
  | 16 => ⟨S96x96, .f32⟩
  | 17 => ⟨S8x96x8x28x28, .f32⟩
  | 18 => ⟨S8x8x28x28x96, .f32⟩
  | 19 => ⟨S8x96x8x28x28, .f32⟩
  | 20 => ⟨S8x96x8x28x28, .f32⟩
  | 21 => ⟨S96x96x1x1x1, .f32⟩
  | 22 => ⟨S96x96, .f32⟩
  | 23 => ⟨S8x96x8x28x28, .f32⟩
  | 24 => ⟨S8x8x28x28x96, .f32⟩
  | 25 => ⟨S8x96x8x28x28, .f32⟩
  | 26 => ⟨S8x96x8x28x28, .f32⟩
  | 27 => ⟨S96x96x1x1x1, .f32⟩
  | 28 => ⟨S96x96, .f32⟩
  | 29 => ⟨S8x96x8x28x28, .f32⟩
  | 30 => ⟨S8x8x28x28x96, .f32⟩
  | 31 => ⟨S8x96x8x28x28, .f32⟩
  | 32 => ⟨S8x96x8x28x28, .f32⟩
  | 33 => ⟨S96x96x1x1x1, .f32⟩
  | 34 => ⟨S96x96, .f32⟩
  | 35 => ⟨S8x96x8x28x28, .f32⟩
  | 36 => ⟨S8x8x28x28x96, .f32⟩
  | 37 => ⟨S8x96x8x28x28, .f32⟩
  | 38 => ⟨S8x96x8x28x28, .f32⟩
  | 39 => ⟨S96x96x1x1x1, .f32⟩
  | 40 => ⟨S96x96, .f32⟩
  | 41 => ⟨S8x96x8x28x28, .f32⟩
  | 42 => ⟨S8x8x28x28x96, .f32⟩
  | 43 => ⟨S8x96x8x28x28, .f32⟩
  | 44 => ⟨S8x96x8x28x28, .f32⟩
  | 45 => ⟨S96x96x1x1x1, .f32⟩
  | 46 => ⟨S96x96, .f32⟩
  | 47 => ⟨S8x96x8x28x28, .f32⟩
  | 48 => ⟨S8x8x28x28x96, .f32⟩
  | 49 => ⟨S8x96x8x28x28, .f32⟩
  | 50 => ⟨S8x96x8x28x28, .f32⟩
  | 51 => ⟨S96x96x1x1x1, .f32⟩
  | 52 => ⟨S96x96, .f32⟩
  | 53 => ⟨S8x96x8x28x28, .f32⟩
  | 54 => ⟨S8x8x28x28x96, .f32⟩
  | 55 => ⟨S8x96x8x28x28, .f32⟩
  | 56 => ⟨S8x96x8x28x28, .f32⟩
  | 57 => ⟨S96x96x1x1x1, .f32⟩
  | 58 => ⟨S96x96, .f32⟩
  | 59 => ⟨S8x96x8x28x28, .f32⟩
  | 60 => ⟨S8x8x28x28x96, .f32⟩
  | 61 => ⟨S8x96x8x28x28, .f32⟩
  | 62 => ⟨S8x96x8x28x28, .f32⟩
  | 63 => ⟨S96x96x1x1x1, .f32⟩
  | 64 => ⟨S96x96, .f32⟩
  | 65 => ⟨S8x96x8x28x28, .f32⟩
  | 66 => ⟨S8x8x28x28x96, .f32⟩
  | 67 => ⟨S8x96x8x28x28, .f32⟩
  | 68 => ⟨S8x96x8x28x28, .f32⟩
  | 69 => ⟨S96x96x1x1x1, .f32⟩
  | 70 => ⟨S96x96, .f32⟩
  | 71 => ⟨S8x96x8x28x28, .f32⟩
  | 72 => ⟨S8x8x28x28x96, .f32⟩
  | 73 => ⟨S8x96x8x28x28, .f32⟩
  | 74 => ⟨S8x96x8x28x28, .f32⟩
  | 75 => ⟨S96x96x1x1x1, .f32⟩
  | 76 => ⟨S96x96, .f32⟩
  | 77 => ⟨S8x96x8x28x28, .f32⟩
  | 78 => ⟨S8x8x28x28x96, .f32⟩
  | 79 => ⟨S8x96x8x28x28, .f32⟩
  | 80 => ⟨S8x96x8x28x28, .f32⟩
  | 81 => ⟨S96x96x1x1x1, .f32⟩
  | 82 => ⟨S96x96, .f32⟩
  | 83 => ⟨S8x96x8x28x28, .f32⟩
  | 84 => ⟨S8x8x28x28x96, .f32⟩
  | 85 => ⟨S8x96x8x28x28, .f32⟩
  | 86 => ⟨S8x96x8x28x28, .f32⟩
  | 87 => ⟨S96x96x1x1x1, .f32⟩
  | 88 => ⟨S96x96, .f32⟩
  | 89 => ⟨S8x96x8x28x28, .f32⟩
  | 90 => ⟨S8x8x28x28x96, .f32⟩
  | 91 => ⟨S8x96x8x28x28, .f32⟩
  | 92 => ⟨S8x96x8x28x28, .f32⟩
  | 93 => ⟨S96x96x1x1x1, .f32⟩
  | 94 => ⟨S96x96, .f32⟩
  | 95 => ⟨S8x96x8x28x28, .f32⟩
  | 96 => ⟨S8x8x28x28x96, .f32⟩
  | 97 => ⟨S8x96x8x28x28, .f32⟩
  | 98 => ⟨S8x96x8x28x28, .f32⟩
  | 99 => ⟨S96x96x1x1x1, .f32⟩
  | 100 => ⟨S96x96, .f32⟩
  | 101 => ⟨S8x96x8x28x28, .f32⟩
  | 102 => ⟨S8x8x28x28x96, .f32⟩
  | 103 => ⟨S8x96x8x28x28, .f32⟩
  | 104 => ⟨S8x96x8x28x28, .f32⟩
  | 105 => ⟨S96x96x1x1x1, .f32⟩
  | 106 => ⟨S96x96, .f32⟩
  | 107 => ⟨S8x96x8x28x28, .f32⟩
  | 108 => ⟨S8x8x28x28x96, .f32⟩
  | 109 => ⟨S8x96x8x28x28, .f32⟩
  | 110 => ⟨S8x96x8x28x28, .f32⟩
  | 111 => ⟨S96x96x1x1x1, .f32⟩
  | 112 => ⟨S96x96, .f32⟩
  | 113 => ⟨S8x96x8x28x28, .f32⟩
  | 114 => ⟨S8x8x28x28x96, .f32⟩
  | 115 => ⟨S8x96x8x28x28, .f32⟩
  | 116 => ⟨S8x96x8x28x28, .f32⟩
  | 117 => ⟨S96x96x1x1x1, .f32⟩
  | 118 => ⟨S96x96, .f32⟩
  | 119 => ⟨S8x96x8x28x28, .f32⟩
  | 120 => ⟨S8x8x28x28x96, .f32⟩
  | 121 => ⟨S8x96x8x28x28, .f32⟩
  | 122 => ⟨S8x96x8x28x28, .f32⟩
  | 123 => ⟨S96x96x1x1x1, .f32⟩
  | 124 => ⟨S96x96, .f32⟩
  | 125 => ⟨S8x96x8x28x28, .f32⟩
  | 126 => ⟨S8x8x28x28x96, .f32⟩
  | 127 => ⟨S8x96x8x28x28, .f32⟩
  | _ => ⟨S4x2x96x8x28x28, .f32⟩

abbrev hbmTy0_1 (i : Nat) : BufTy := match i % 128 with
  | 0 => ⟨S8x96x8x28x28, .f32⟩
  | 1 => ⟨S96x96x1x1x1, .f32⟩
  | 2 => ⟨S96x96, .f32⟩
  | 3 => ⟨S8x96x8x28x28, .f32⟩
  | 4 => ⟨S8x8x28x28x96, .f32⟩
  | 5 => ⟨S8x96x8x28x28, .f32⟩
  | 6 => ⟨S8x96x8x28x28, .f32⟩
  | 7 => ⟨S96x96x1x1x1, .f32⟩
  | 8 => ⟨S96x96, .f32⟩
  | 9 => ⟨S8x96x8x28x28, .f32⟩
  | 10 => ⟨S8x8x28x28x96, .f32⟩
  | 11 => ⟨S8x96x8x28x28, .f32⟩
  | 12 => ⟨S8x96x8x28x28, .f32⟩
  | 13 => ⟨S96x96x1x1x1, .f32⟩
  | 14 => ⟨S96x96, .f32⟩
  | 15 => ⟨S8x96x8x28x28, .f32⟩
  | 16 => ⟨S8x8x28x28x96, .f32⟩
  | 17 => ⟨S8x96x8x28x28, .f32⟩
  | 18 => ⟨S8x96x8x28x28, .f32⟩
  | 19 => ⟨S96x96x1x1x1, .f32⟩
  | 20 => ⟨S96x96, .f32⟩
  | 21 => ⟨S8x96x8x28x28, .f32⟩
  | 22 => ⟨S8x8x28x28x96, .f32⟩
  | 23 => ⟨S8x96x8x28x28, .f32⟩
  | 24 => ⟨S8x96x8x28x28, .f32⟩
  | 25 => ⟨S96x96x1x1x1, .f32⟩
  | 26 => ⟨S96x96, .f32⟩
  | 27 => ⟨S8x96x8x28x28, .f32⟩
  | 28 => ⟨S8x8x28x28x96, .f32⟩
  | 29 => ⟨S8x96x8x28x28, .f32⟩
  | 30 => ⟨S8x96x8x28x28, .f32⟩
  | 31 => ⟨S96x96x1x1x1, .f32⟩
  | 32 => ⟨S96x96, .f32⟩
  | 33 => ⟨S8x96x8x28x28, .f32⟩
  | 34 => ⟨S8x8x28x28x96, .f32⟩
  | 35 => ⟨S8x96x8x28x28, .f32⟩
  | 36 => ⟨S8x96x8x28x28, .f32⟩
  | 37 => ⟨S96x96x1x1x1, .f32⟩
  | 38 => ⟨S96x96, .f32⟩
  | 39 => ⟨S8x96x8x28x28, .f32⟩
  | 40 => ⟨S8x8x28x28x96, .f32⟩
  | 41 => ⟨S8x96x8x28x28, .f32⟩
  | 42 => ⟨S8x96x8x28x28, .f32⟩
  | 43 => ⟨S96x96x1x3x3, .f32⟩
  | 44 => ⟨S96x96x3x3, .f32⟩
  | 45 => ⟨S_, .f32⟩
  | 46 => ⟨S96x96, .f32⟩
  | 47 => ⟨S96x96x1x3x3, .f32⟩
  | 48 => ⟨S96x96x3x3, .f32⟩
  | 49 => ⟨S_, .f32⟩
  | 50 => ⟨S96x96, .f32⟩
  | 51 => ⟨S96x96, .f32⟩
  | 52 => ⟨S96x96x1x1x1, .f32⟩
  | 53 => ⟨S_, .i32⟩
  | 54 => ⟨S_, .f32⟩
  | 55 => ⟨S8x96x8x28x28, .f32⟩
  | 56 => ⟨S_, .f32⟩
  | 57 => ⟨S8x96x8x28x28, .f32⟩
  | 58 => ⟨S96x96, .f32⟩
  | 59 => ⟨S8x8x28x28x96, .f32⟩
  | 60 => ⟨S8x96x8x28x28, .f32⟩
  | 61 => ⟨S8x96x8x28x28, .f32⟩
  | 62 => ⟨S_, .f32⟩
  | 63 => ⟨S8x96x8x28x28, .f32⟩
  | 64 => ⟨S8x96x8x28x28, .f32⟩
  | 65 => ⟨S8x96x8x28x28, .f32⟩
  | 66 => ⟨S_, .i32⟩
  | 67 => ⟨S_, .f32⟩
  | 68 => ⟨S8x96x8x28x28, .f32⟩
  | 69 => ⟨S_, .f32⟩
  | 70 => ⟨S8x96x8x28x28, .f32⟩
  | 71 => ⟨S96x96, .f32⟩
  | 72 => ⟨S8x8x28x28x96, .f32⟩
  | 73 => ⟨S8x96x8x28x28, .f32⟩
  | 74 => ⟨S8x96x8x28x28, .f32⟩
  | 75 => ⟨S4x2x96x2x4x2x14x2x14, .f32⟩
  | 76 => ⟨S4x2x2x2x2x4x14x14x96, .f32⟩
  | 77 => ⟨S4x2x8x4x196x96, .f32⟩
  | 78 => ⟨S4x2x96x2x4x2x14x2x14, .f32⟩
  | 79 => ⟨S4x2x2x2x2x4x14x14x96, .f32⟩
  | 80 => ⟨S4x2x8x4x196x96, .f32⟩
  | 81 => ⟨S4x2x96x2x4x2x14x2x14, .f32⟩
  | 82 => ⟨S4x2x2x2x2x4x14x14x96, .f32⟩
  | 83 => ⟨S4x2x8x4x196x96, .f32⟩
  | 84 => ⟨S8x96x8x28x28, .f32⟩
  | 85 => ⟨S8x96x8x28x28, .f32⟩
  | 86 => ⟨S8x96x8x28x28, .f32⟩
  | 87 => ⟨S8x96x8x784, .f32⟩
  | 88 => ⟨S_, .f32⟩
  | 89 => ⟨S8x96x8, .f32⟩
  | 90 => ⟨S8x8x96, .f32⟩
  | 91 => ⟨S8x96x8x784, .f32⟩
  | 92 => ⟨S_, .f32⟩
  | 93 => ⟨S8x96x8, .f32⟩
  | 94 => ⟨S8x8x96, .f32⟩
  | 95 => ⟨S8x96x8x784, .f32⟩
  | 96 => ⟨S_, .f32⟩
  | 97 => ⟨S8x96x8, .f32⟩
  | 98 => ⟨S8x8x96, .f32⟩
  | 99 => ⟨S8x96x8x784, .f32⟩
  | 100 => ⟨S_, .f32⟩
  | 101 => ⟨S8x96x8, .f32⟩
  | 102 => ⟨S8x8x96, .f32⟩
  | 103 => ⟨S8x96x8x784, .f32⟩
  | 104 => ⟨S_, .f32⟩
  | 105 => ⟨S8x96x8, .f32⟩
  | 106 => ⟨S8x8x96, .f32⟩
  | 107 => ⟨S8x96x8x784, .f32⟩
  | 108 => ⟨S_, .f32⟩
  | 109 => ⟨S8x96x8, .f32⟩
  | 110 => ⟨S8x8x96, .f32⟩
  | 111 => ⟨S8x8x1x96, .f32⟩
  | 112 => ⟨S8x8x1x96, .f32⟩
  | 113 => ⟨S8x8x1x96, .f32⟩
  | 114 => ⟨S8x8x1x96, .f32⟩
  | 115 => ⟨S8x8x1x96, .f32⟩
  | 116 => ⟨S8x8x1x96, .f32⟩
  | 117 => ⟨S8x8x6x96, .f32⟩
  | 118 => ⟨S_, .f32⟩
  | 119 => ⟨S4x2x8x4x96, .f32⟩
  | 120 => ⟨S4x2x2x4x4x96, .f32⟩
  | 121 => ⟨S4x2x2x4x4x96, .f32⟩
  | 122 => ⟨S8x8x4x96, .f32⟩
  | 123 => ⟨S_, .f32⟩
  | 124 => ⟨S4x2x8x4x96, .f32⟩
  | 125 => ⟨S4x2x2x4x4x96, .f32⟩
  | 126 => ⟨S4x2x2x4x4x96, .f32⟩
  | 127 => ⟨S8x8x4x96, .f32⟩
  | _ => ⟨S4x2x96x8x28x28, .f32⟩

abbrev hbmTy0_2 (i : Nat) : BufTy := match i % 128 with
  | 0 => ⟨S8x8x8x96, .f32⟩
  | _ => ⟨S4x2x96x8x28x28, .f32⟩

abbrev hbmTy (i : Nat) : BufTy := match i / 128 with
  | 0 => hbmTy0_0 i
  | 1 => hbmTy0_1 i
  | 2 => hbmTy0_2 i
  | _ => ⟨S4x2x96x8x28x28, .f32⟩

abbrev bufTy : (tb : Table) → Fin (tcTables nBuf tb) → BufTy
  | .hbm, ⟨i, _⟩ => hbmTy i
  | _, _ => ⟨S4x2x96x8x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_v93 : Ref sig .tc := ⟨.hbm, 99, rfl⟩
abbrev main_v94 : Ref sig .tc := ⟨.hbm, 100, rfl⟩
abbrev main_v95 : Ref sig .tc := ⟨.hbm, 101, rfl⟩
abbrev main_v96 : Ref sig .tc := ⟨.hbm, 102, rfl⟩
abbrev main_v97 : Ref sig .tc := ⟨.hbm, 103, rfl⟩
abbrev main_v98 : Ref sig .tc := ⟨.hbm, 104, rfl⟩
abbrev main_v99 : Ref sig .tc := ⟨.hbm, 105, rfl⟩
abbrev main_v100 : Ref sig .tc := ⟨.hbm, 106, rfl⟩
abbrev main_v101 : Ref sig .tc := ⟨.hbm, 107, rfl⟩
abbrev main_v102 : Ref sig .tc := ⟨.hbm, 108, rfl⟩
abbrev main_v103 : Ref sig .tc := ⟨.hbm, 109, rfl⟩
abbrev main_v104 : Ref sig .tc := ⟨.hbm, 110, rfl⟩
abbrev main_v105 : Ref sig .tc := ⟨.hbm, 111, rfl⟩
abbrev main_v106 : Ref sig .tc := ⟨.hbm, 112, rfl⟩
abbrev main_v107 : Ref sig .tc := ⟨.hbm, 113, rfl⟩
abbrev main_v108 : Ref sig .tc := ⟨.hbm, 114, rfl⟩
abbrev main_v109 : Ref sig .tc := ⟨.hbm, 115, rfl⟩
abbrev main_v110 : Ref sig .tc := ⟨.hbm, 116, rfl⟩
abbrev main_v111 : Ref sig .tc := ⟨.hbm, 117, rfl⟩
abbrev main_v112 : Ref sig .tc := ⟨.hbm, 118, rfl⟩
abbrev main_v113 : Ref sig .tc := ⟨.hbm, 119, rfl⟩
abbrev main_v114 : Ref sig .tc := ⟨.hbm, 120, rfl⟩
abbrev main_v115 : Ref sig .tc := ⟨.hbm, 121, rfl⟩
abbrev main_v116 : Ref sig .tc := ⟨.hbm, 122, rfl⟩
abbrev main_v117 : Ref sig .tc := ⟨.hbm, 123, rfl⟩
abbrev main_v118 : Ref sig .tc := ⟨.hbm, 124, rfl⟩
abbrev main_v119 : Ref sig .tc := ⟨.hbm, 125, rfl⟩
abbrev main_v120 : Ref sig .tc := ⟨.hbm, 126, rfl⟩
abbrev main_v121 : Ref sig .tc := ⟨.hbm, 127, rfl⟩
abbrev main_v122 : Ref sig .tc := ⟨.hbm, 128, rfl⟩
abbrev main_v123 : Ref sig .tc := ⟨.hbm, 129, rfl⟩
abbrev main_v124 : Ref sig .tc := ⟨.hbm, 130, rfl⟩
abbrev main_v125 : Ref sig .tc := ⟨.hbm, 131, rfl⟩
abbrev main_v126 : Ref sig .tc := ⟨.hbm, 132, rfl⟩
abbrev main_v127 : Ref sig .tc := ⟨.hbm, 133, rfl⟩
abbrev main_v128 : Ref sig .tc := ⟨.hbm, 134, rfl⟩
abbrev main_v129 : Ref sig .tc := ⟨.hbm, 135, rfl⟩
abbrev main_v130 : Ref sig .tc := ⟨.hbm, 136, rfl⟩
abbrev main_v131 : Ref sig .tc := ⟨.hbm, 137, rfl⟩
abbrev main_v132 : Ref sig .tc := ⟨.hbm, 138, rfl⟩
abbrev main_v133 : Ref sig .tc := ⟨.hbm, 139, rfl⟩
abbrev main_v134 : Ref sig .tc := ⟨.hbm, 140, rfl⟩
abbrev main_v135 : Ref sig .tc := ⟨.hbm, 141, rfl⟩
abbrev main_v136 : Ref sig .tc := ⟨.hbm, 142, rfl⟩
abbrev main_v137 : Ref sig .tc := ⟨.hbm, 143, rfl⟩
abbrev main_v138 : Ref sig .tc := ⟨.hbm, 144, rfl⟩
abbrev main_v139 : Ref sig .tc := ⟨.hbm, 145, rfl⟩
abbrev main_v140 : Ref sig .tc := ⟨.hbm, 146, rfl⟩
abbrev main_v141 : Ref sig .tc := ⟨.hbm, 147, rfl⟩
abbrev main_v142 : Ref sig .tc := ⟨.hbm, 148, rfl⟩
abbrev main_v143 : Ref sig .tc := ⟨.hbm, 149, rfl⟩
abbrev main_v144 : Ref sig .tc := ⟨.hbm, 150, rfl⟩
abbrev main_v145 : Ref sig .tc := ⟨.hbm, 151, rfl⟩
abbrev main_v146 : Ref sig .tc := ⟨.hbm, 152, rfl⟩
abbrev main_v147 : Ref sig .tc := ⟨.hbm, 153, rfl⟩
abbrev main_v148 : Ref sig .tc := ⟨.hbm, 154, rfl⟩
abbrev main_v149 : Ref sig .tc := ⟨.hbm, 155, rfl⟩
abbrev main_v150 : Ref sig .tc := ⟨.hbm, 156, rfl⟩
abbrev main_v151 : Ref sig .tc := ⟨.hbm, 157, rfl⟩
abbrev main_v152 : Ref sig .tc := ⟨.hbm, 158, rfl⟩
abbrev main_v153 : Ref sig .tc := ⟨.hbm, 159, rfl⟩
abbrev main_v154 : Ref sig .tc := ⟨.hbm, 160, rfl⟩
abbrev main_v155 : Ref sig .tc := ⟨.hbm, 161, rfl⟩
abbrev main_v156 : Ref sig .tc := ⟨.hbm, 162, rfl⟩
abbrev main_v157 : Ref sig .tc := ⟨.hbm, 163, rfl⟩
abbrev main_v158 : Ref sig .tc := ⟨.hbm, 164, rfl⟩
abbrev main_v159 : Ref sig .tc := ⟨.hbm, 165, rfl⟩
abbrev main_v160 : Ref sig .tc := ⟨.hbm, 166, rfl⟩
abbrev main_v161 : Ref sig .tc := ⟨.hbm, 167, rfl⟩
abbrev main_v162 : Ref sig .tc := ⟨.hbm, 168, rfl⟩
abbrev main_v163 : Ref sig .tc := ⟨.hbm, 169, rfl⟩
abbrev main_v164 : Ref sig .tc := ⟨.hbm, 170, rfl⟩
abbrev main_v165 : Ref sig .tc := ⟨.hbm, 171, rfl⟩
abbrev main_v166 : Ref sig .tc := ⟨.hbm, 172, rfl⟩
abbrev main_cst_0 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_cst_1 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_c_2 : Ref sig .tc := ⟨.hbm, 181, rfl⟩
abbrev main_call1_v0 : Ref sig .tc := ⟨.hbm, 182, rfl⟩
abbrev main_v173 : Ref sig .tc := ⟨.hbm, 183, rfl⟩
abbrev main_cst_3 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_cst_4 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_c_5 : Ref sig .tc := ⟨.hbm, 194, rfl⟩
abbrev main_call2_v0 : Ref sig .tc := ⟨.hbm, 195, rfl⟩
abbrev main_v182 : Ref sig .tc := ⟨.hbm, 196, rfl⟩
abbrev main_cst_6 : Ref sig .tc := ⟨.hbm, 197, rfl⟩
abbrev main_v183 : Ref sig .tc := ⟨.hbm, 198, rfl⟩
abbrev main_v184 : Ref sig .tc := ⟨.hbm, 199, rfl⟩
abbrev main_v185 : Ref sig .tc := ⟨.hbm, 200, rfl⟩
abbrev main_v186 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_v192 : Ref sig .tc := ⟨.hbm, 207, rfl⟩
abbrev main_v193 : Ref sig .tc := ⟨.hbm, 208, rfl⟩
abbrev main_v194 : Ref sig .tc := ⟨.hbm, 209, rfl⟩
abbrev main_v195 : Ref sig .tc := ⟨.hbm, 210, rfl⟩
abbrev main_v196 : Ref sig .tc := ⟨.hbm, 211, rfl⟩
abbrev main_v197 : Ref sig .tc := ⟨.hbm, 212, rfl⟩
abbrev main_v198 : Ref sig .tc := ⟨.hbm, 213, rfl⟩
abbrev main_v199 : Ref sig .tc := ⟨.hbm, 214, rfl⟩
abbrev main_v200 : Ref sig .tc := ⟨.hbm, 215, rfl⟩
abbrev main_cst_7 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_cst_8 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_cst_9 : Ref sig .tc := ⟨.hbm, 224, rfl⟩
abbrev main_v207 : Ref sig .tc := ⟨.hbm, 225, rfl⟩
abbrev main_v208 : Ref sig .tc := ⟨.hbm, 226, rfl⟩
abbrev main_v209 : Ref sig .tc := ⟨.hbm, 227, rfl⟩
abbrev main_cst_10 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_cst_11 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_cst_12 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_cst_13 : Ref sig .tc := ⟨.hbm, 246, rfl⟩
abbrev main_v225 : Ref sig .tc := ⟨.hbm, 247, rfl⟩
abbrev main_v226 : Ref sig .tc := ⟨.hbm, 248, rfl⟩
abbrev main_v227 : Ref sig .tc := ⟨.hbm, 249, rfl⟩
abbrev main_v228 : Ref sig .tc := ⟨.hbm, 250, rfl⟩
abbrev main_cst_14 : Ref sig .tc := ⟨.hbm, 251, rfl⟩
abbrev main_v229 : Ref sig .tc := ⟨.hbm, 252, rfl⟩
abbrev main_v230 : Ref sig .tc := ⟨.hbm, 253, rfl⟩
abbrev main_v231 : Ref sig .tc := ⟨.hbm, 254, rfl⟩
abbrev main_v232 : Ref sig .tc := ⟨.hbm, 255, rfl⟩
abbrev main_v233 : Ref sig .tc := ⟨.hbm, 256, rfl⟩

abbrev nD : Nat := 1
abbrev τ : Topo := Topo.v7x

variable {F : FTy → Type} [FloatOps F]
-- ==== Kernel2.lean ====
abbrev S4x2x8x4x196x96 : Shape := ⟨6, ![4, 2, 8, 4, 196, 96]⟩
abbrev S8x8x6x96 : Shape := ⟨4, ![8, 8, 6, 96]⟩
abbrev S8x8x8x96 : Shape := ⟨4, ![8, 8, 8, 96]⟩
abbrev S96 : Shape := ⟨1, ![96]⟩
abbrev S96x96x1x1x1 : Shape := ⟨5, ![96, 96, 1, 1, 1]⟩
abbrev S96x96 : Shape := ⟨2, ![96, 96]⟩
abbrev S96x4 : Shape := ⟨2, ![96, 4]⟩
abbrev S_ : Shape := ⟨0, ![]⟩
abbrev S6x96 : Shape := ⟨2, ![6, 96]⟩
abbrev S1x96 : Shape := ⟨2, ![1, 96]⟩
abbrev S4x2x2x4x2x4x96 : Shape := ⟨7, ![4, 2, 2, 4, 2, 4, 96]⟩
abbrev S2x2x2x4x96 : Shape := ⟨5, ![2, 2, 2, 4, 96]⟩
abbrev S2x2x8x96 : Shape := ⟨4, ![2, 2, 8, 96]⟩
abbrev S2x4x2x96 : Shape := ⟨4, ![2, 4, 2, 96]⟩
abbrev S1x1x8x4x196x96 : Shape := ⟨6, ![1, 1, 8, 4, 196, 96]⟩
abbrev S1x2x8x96 : Shape := ⟨4, ![1, 2, 8, 96]⟩
abbrev S1x1x2x96 : Shape := ⟨4, ![1, 1, 2, 96]⟩
abbrev S8x784x96 : Shape := ⟨3, ![8, 784, 96]⟩
abbrev S6272x4 : Shape := ⟨2, ![6272, 4]⟩
abbrev S8x8 : Shape := ⟨2, ![8, 8]⟩
abbrev S1x1x8x96 : Shape := ⟨4, ![1, 1, 8, 96]⟩
abbrev S8x96 : Shape := ⟨2, ![8, 96]⟩
abbrev S96x8 : Shape := ⟨2, ![96, 8]⟩
abbrev S8 : Shape := ⟨1, ![8]⟩
abbrev S8x1 : Shape := ⟨2, ![8, 1]⟩
abbrev S8x4x196x96 : Shape := ⟨4, ![8, 4, 196, 96]⟩
abbrev S1x1x96 : Shape := ⟨3, ![1, 1, 96]⟩
abbrev S8x75264 : Shape := ⟨2, ![8, 75264]⟩
abbrev S6272x96 : Shape := ⟨2, ![6272, 96]⟩
abbrev S4x96 : Shape := ⟨2, ![4, 96]⟩
abbrev S1x1x1x96 : Shape := ⟨4, ![1, 1, 1, 96]⟩

abbrev nBuf : Space → Nat
  | .hbm => 109
  | .vmem => 21
  | .smem => 0
  | _ => 0

abbrev bufTy : (tb : Table) → Fin (tcTables nBuf tb) → BufTy
  | .hbm, ⟨0, _⟩ => ⟨S4x2x8x4x196x96, .f32⟩
  | .hbm, ⟨1, _⟩ => ⟨S4x2x8x4x196x96, .f32⟩
  | .hbm, ⟨2, _⟩ => ⟨S4x2x8x4x196x96, .f32⟩
  | .hbm, ⟨3, _⟩ => ⟨S8x8x6x96, .f32⟩
  | .hbm, ⟨4, _⟩ => ⟨S8x8x8x96, .f32⟩
  | .hbm, ⟨5, _⟩ => ⟨S96, .f32⟩
  | .hbm, ⟨6, _⟩ => ⟨S96, .f32⟩
  | .hbm, ⟨7, _⟩ => ⟨S96, .f32⟩
  | .hbm, ⟨8, _⟩ => ⟨S96, .f32⟩
  | .hbm, ⟨9, _⟩ => ⟨S96, .f32⟩
  | .hbm, ⟨10, _⟩ => ⟨S96, .f32⟩
  | .hbm, ⟨11, _⟩ => ⟨S96x96x1x1x1, .f32⟩
  | .hbm, ⟨12, _⟩ => ⟨S96x96, .f32⟩
  | .hbm, ⟨13, _⟩ => ⟨S96x96, .f32⟩
  | .hbm, ⟨14, _⟩ => ⟨S96x4, .i32⟩
  | .hbm, ⟨15, _⟩ => ⟨S_, .i32⟩
  | .hbm, ⟨16, _⟩ => ⟨S_, .i32⟩
  | .hbm, ⟨17, _⟩ => ⟨S96x4, .i32⟩
  | .hbm, ⟨18, _⟩ => ⟨S96x4, .i32⟩
  | .hbm, ⟨19, _⟩ => ⟨S96x4, .i32⟩
  | .hbm, ⟨20, _⟩ => ⟨S_, .i32⟩
  | .hbm, ⟨21, _⟩ => ⟨S96x4, .i32⟩
  | .hbm, ⟨22, _⟩ => ⟨S96x4, .i1⟩
  | .hbm, ⟨23, _⟩ => ⟨S96x4, .i32⟩
  | .hbm, ⟨24, _⟩ => ⟨S96x4, .i32⟩
  | .hbm, ⟨25, _⟩ => ⟨S_, .i32⟩
  | .hbm, ⟨26, _⟩ => ⟨S96x4, .i32⟩
  | .hbm, ⟨27, _⟩ => ⟨S96x4, .i1⟩
  | .hbm, ⟨28, _⟩ => ⟨S96x4, .i1⟩
  | .hbm, ⟨29, _⟩ => ⟨S_, .i32⟩
  | .hbm, ⟨30, _⟩ => ⟨S96x4, .i32⟩
  | .hbm, ⟨31, _⟩ => ⟨S96x4, .i32⟩
  | .hbm, ⟨32, _⟩ => ⟨S96x4, .i32⟩
  | .hbm, ⟨33, _⟩ => ⟨S96x4, .i32⟩
  | .hbm, ⟨34, _⟩ => ⟨S96x4, .i1⟩
  | .hbm, ⟨35, _⟩ => ⟨S96x4, .f32⟩
  | .hbm, ⟨36, _⟩ => ⟨S_, .f32⟩
  | .hbm, ⟨37, _⟩ => ⟨S6x96, .f32⟩
  | .hbm, ⟨38, _⟩ => ⟨S1x96, .f32⟩
  | .hbm, ⟨39, _⟩ => ⟨S96, .f32⟩
  | .hbm, ⟨40, _⟩ => ⟨S1x96, .f32⟩
  | .hbm, ⟨41, _⟩ => ⟨S96, .f32⟩
  | .hbm, ⟨42, _⟩ => ⟨S_, .f32⟩
  | .hbm, ⟨43, _⟩ => ⟨S96, .f32⟩
  | .hbm, ⟨44, _⟩ => ⟨S96, .f32⟩
  | .hbm, ⟨45, _⟩ => ⟨S_, .f32⟩
  | .hbm, ⟨46, _⟩ => ⟨S96, .f32⟩
  | .hbm, ⟨47, _⟩ => ⟨S96, .f32⟩
  | .hbm, ⟨48, _⟩ => ⟨S96, .f32⟩
  | .hbm, ⟨49, _⟩ => ⟨S96, .f32⟩
  | .hbm, ⟨50, _⟩ => ⟨S_, .f32⟩
  | .hbm, ⟨51, _⟩ => ⟨S96, .f32⟩
  | .hbm, ⟨52, _⟩ => ⟨S96, .f32⟩
  | .hbm, ⟨53, _⟩ => ⟨S96, .f32⟩
  | .hbm, ⟨54, _⟩ => ⟨S96, .f32⟩
  | .hbm, ⟨55, _⟩ => ⟨S96, .f32⟩
  | .hbm, ⟨56, _⟩ => ⟨S96, .f32⟩
  | .hbm, ⟨57, _⟩ => ⟨S1x96, .f32⟩
  | .hbm, ⟨58, _⟩ => ⟨S96, .f32⟩
  | .hbm, ⟨59, _⟩ => ⟨S1x96, .f32⟩
  | .hbm, ⟨60, _⟩ => ⟨S96, .f32⟩
  | .hbm, ⟨61, _⟩ => ⟨S_, .f32⟩
  | .hbm, ⟨62, _⟩ => ⟨S96, .f32⟩
  | .hbm, ⟨63, _⟩ => ⟨S96, .f32⟩
  | .hbm, ⟨64, _⟩ => ⟨S_, .f32⟩
  | .hbm, ⟨65, _⟩ => ⟨S96, .f32⟩
  | .hbm, ⟨66, _⟩ => ⟨S96, .f32⟩
  | .hbm, ⟨67, _⟩ => ⟨S96, .f32⟩
  | .hbm, ⟨68, _⟩ => ⟨S96, .f32⟩
  | .hbm, ⟨69, _⟩ => ⟨S_, .f32⟩
  | .hbm, ⟨70, _⟩ => ⟨S96, .f32⟩
  | .hbm, ⟨71, _⟩ => ⟨S96, .f32⟩
  | .hbm, ⟨72, _⟩ => ⟨S96, .f32⟩
  | .hbm, ⟨73, _⟩ => ⟨S96, .f32⟩
  | .hbm, ⟨74, _⟩ => ⟨S96, .f32⟩
  | .hbm, ⟨75, _⟩ => ⟨S96, .f32⟩
  | .hbm, ⟨76, _⟩ => ⟨S1x96, .f32⟩
  | .hbm, ⟨77, _⟩ => ⟨S96, .f32⟩
  | .hbm, ⟨78, _⟩ => ⟨S1x96, .f32⟩
  | .hbm, ⟨79, _⟩ => ⟨S96, .f32⟩
  | .hbm, ⟨80, _⟩ => ⟨S_, .f32⟩
  | .hbm, ⟨81, _⟩ => ⟨S96, .f32⟩
  | .hbm, ⟨82, _⟩ => ⟨S96, .f32⟩
  | .hbm, ⟨83, _⟩ => ⟨S_, .f32⟩
  | .hbm, ⟨84, _⟩ => ⟨S96, .f32⟩
  | .hbm, ⟨85, _⟩ => ⟨S96, .f32⟩
  | .hbm, ⟨86, _⟩ => ⟨S96, .f32⟩
  | .hbm, ⟨87, _⟩ => ⟨S96, .f32⟩
  | .hbm, ⟨88, _⟩ => ⟨S_, .f32⟩
  | .hbm, ⟨89, _⟩ => ⟨S96, .f32⟩
  | .hbm, ⟨90, _⟩ => ⟨S96, .f32⟩
  | .hbm, ⟨91, _⟩ => ⟨S96, .f32⟩
  | .hbm, ⟨92, _⟩ => ⟨S96, .f32⟩
  | .hbm, ⟨93, _⟩ => ⟨S96, .f32⟩
  | .hbm, ⟨94, _⟩ => ⟨S96, .f32⟩
  | .hbm, ⟨95, _⟩ => ⟨S1x96, .f32⟩
  | .hbm, ⟨96, _⟩ => ⟨S1x96, .f32⟩
  | .hbm, ⟨97, _⟩ => ⟨S1x96, .f32⟩
  | .hbm, ⟨98, _⟩ => ⟨S1x96, .f32⟩
  | .hbm, ⟨99, _⟩ => ⟨S1x96, .f32⟩
  | .hbm, ⟨100, _⟩ => ⟨S1x96, .f32⟩
  | .hbm, ⟨101, _⟩ => ⟨S6x96, .f32⟩
  | .hbm, ⟨102, _⟩ => ⟨S4x2x2x4x2x4x96, .f32⟩
  | .hbm, ⟨103, _⟩ => ⟨S_, .f32⟩
  | .hbm, ⟨104, _⟩ => ⟨S2x2x2x4x96, .f32⟩
  | .hbm, ⟨105, _⟩ => ⟨S2x2x2x4x96, .f32⟩
  | .hbm, ⟨106, _⟩ => ⟨S2x2x8x96, .f32⟩
  | .hbm, ⟨107, _⟩ => ⟨S4x2x8x4x196x96, .f32⟩
  | .hbm, ⟨108, _⟩ => ⟨S2x4x2x96, .f32⟩
  | .local _ .vmem, ⟨0, _⟩ => ⟨S1x1x8x4x196x96, .f32⟩
  | .local _ .vmem, ⟨1, _⟩ => ⟨S1x1x8x4x196x96, .f32⟩
  | .local _ .vmem, ⟨2, _⟩ => ⟨S1x1x8x4x196x96, .f32⟩
  | .local _ .vmem, ⟨3, _⟩ => ⟨S1x1x8x4x196x96, .f32⟩
  | .local _ .vmem, ⟨4, _⟩ => ⟨S1x1x8x4x196x96, .f32⟩
  | .local _ .vmem, ⟨5, _⟩ => ⟨S1x1x8x4x196x96, .f32⟩
  | .local _ .vmem, ⟨6, _⟩ => ⟨S1x2x8x96, .f32⟩
  | .local _ .vmem, ⟨7, _⟩ => ⟨S1x2x8x96, .f32⟩
  | .local _ .vmem, ⟨8, _⟩ => ⟨S6x96, .f32⟩
  | .local _ .vmem, ⟨9, _⟩ => ⟨S96x96, .f32⟩
  | .local _ .vmem, ⟨10, _⟩ => ⟨S96x4, .f32⟩
  | .local _ .vmem, ⟨11, _⟩ => ⟨S1x1x8x4x196x96, .f32⟩
  | .local _ .vmem, ⟨12, _⟩ => ⟨S1x1x8x4x196x96, .f32⟩
  | .local _ .vmem, ⟨13, _⟩ => ⟨S1x1x2x96, .f32⟩
  | .local _ .vmem, ⟨14, _⟩ => ⟨S1x1x2x96, .f32⟩
  | .local _ .vmem, ⟨15, _⟩ => ⟨S8x784x96, .f32⟩
  | .local _ .vmem, ⟨16, _⟩ => ⟨S8x784x96, .f32⟩
  | .local _ .vmem, ⟨17, _⟩ => ⟨S8x784x96, .f32⟩
  | .local _ .vmem, ⟨18, _⟩ => ⟨S6272x4, .f32⟩
  | .local _ .vmem, ⟨19, _⟩ => ⟨S8x784x96, .f32⟩
  | .local _ .vmem, ⟨20, _⟩ => ⟨S8x8, .f32⟩
  | _, _ => ⟨S4x2x8x4x196x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_c : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_c : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_call0_c_0 : Ref sig .tc := ⟨.hbm, 29, rfl⟩
abbrev main_call0_call0_v12 : Ref sig .tc := ⟨.hbm, 30, rfl⟩
abbrev main_call0_call0_v13 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_cst_0 : Ref sig .tc := ⟨.hbm, 42, rfl⟩
abbrev main_call0_v12 : Ref sig .tc := ⟨.hbm, 43, rfl⟩
abbrev main_call0_v13 : Ref sig .tc := ⟨.hbm, 44, rfl⟩
abbrev main_call0_cst_1 : Ref sig .tc := ⟨.hbm, 45, rfl⟩
abbrev main_call0_v14 : Ref sig .tc := ⟨.hbm, 46, rfl⟩
abbrev main_call0_v15 : Ref sig .tc := ⟨.hbm, 47, rfl⟩
abbrev main_call0_v16 : Ref sig .tc := ⟨.hbm, 48, rfl⟩
abbrev main_call0_v17 : Ref sig .tc := ⟨.hbm, 49, rfl⟩
abbrev main_call0_cst_2 : Ref sig .tc := ⟨.hbm, 50, rfl⟩
abbrev main_call0_v18 : Ref sig .tc := ⟨.hbm, 51, rfl⟩
abbrev main_call0_v19 : Ref sig .tc := ⟨.hbm, 52, rfl⟩
abbrev main_call0_v20 : Ref sig .tc := ⟨.hbm, 53, rfl⟩
abbrev main_call0_v21 : Ref sig .tc := ⟨.hbm, 54, rfl⟩
abbrev main_call0_v22 : Ref sig .tc := ⟨.hbm, 55, rfl⟩
abbrev main_call0_v23 : Ref sig .tc := ⟨.hbm, 56, rfl⟩
abbrev main_call0_v24 : Ref sig .tc := ⟨.hbm, 57, rfl⟩
abbrev main_call0_v25 : Ref sig .tc := ⟨.hbm, 58, rfl⟩
abbrev main_call0_v26 : Ref sig .tc := ⟨.hbm, 59, rfl⟩
abbrev main_call0_v27 : Ref sig .tc := ⟨.hbm, 60, rfl⟩
abbrev main_call0_cst_3 : Ref sig .tc := ⟨.hbm, 61, rfl⟩
abbrev main_call0_v28 : Ref sig .tc := ⟨.hbm, 62, rfl⟩
abbrev main_call0_v29 : Ref sig .tc := ⟨.hbm, 63, rfl⟩
abbrev main_call0_cst_4 : Ref sig .tc := ⟨.hbm, 64, rfl⟩
abbrev main_call0_v30 : Ref sig .tc := ⟨.hbm, 65, rfl⟩
abbrev main_call0_v31 : Ref sig .tc := ⟨.hbm, 66, rfl⟩
abbrev main_call0_v32 : Ref sig .tc := ⟨.hbm, 67, rfl⟩
abbrev main_call0_v33 : Ref sig .tc := ⟨.hbm, 68, rfl⟩
abbrev main_call0_cst_5 : Ref sig .tc := ⟨.hbm, 69, rfl⟩
abbrev main_call0_v34 : Ref sig .tc := ⟨.hbm, 70, rfl⟩
abbrev main_call0_v35 : Ref sig .tc := ⟨.hbm, 71, rfl⟩
abbrev main_call0_v36 : Ref sig .tc := ⟨.hbm, 72, rfl⟩
abbrev main_call0_v37 : Ref sig .tc := ⟨.hbm, 73, rfl⟩
abbrev main_call0_v38 : Ref sig .tc := ⟨.hbm, 74, rfl⟩
abbrev main_call0_v39 : Ref sig .tc := ⟨.hbm, 75, rfl⟩
abbrev main_call0_v40 : Ref sig .tc := ⟨.hbm, 76, rfl⟩
abbrev main_call0_v41 : Ref sig .tc := ⟨.hbm, 77, rfl⟩
abbrev main_call0_v42 : Ref sig .tc := ⟨.hbm, 78, rfl⟩
abbrev main_call0_v43 : Ref sig .tc := ⟨.hbm, 79, rfl⟩
abbrev main_call0_cst_6 : Ref sig .tc := ⟨.hbm, 80, rfl⟩
abbrev main_call0_v44 : Ref sig .tc := ⟨.hbm, 81, rfl⟩
abbrev main_call0_v45 : Ref sig .tc := ⟨.hbm, 82, rfl⟩
abbrev main_call0_cst_7 : Ref sig .tc := ⟨.hbm, 83, rfl⟩
abbrev main_call0_v46 : Ref sig .tc := ⟨.hbm, 84, rfl⟩
abbrev main_call0_v47 : Ref sig .tc := ⟨.hbm, 85, rfl⟩
abbrev main_call0_v48 : Ref sig .tc := ⟨.hbm, 86, rfl⟩
abbrev main_call0_v49 : Ref sig .tc := ⟨.hbm, 87, rfl⟩
abbrev main_call0_cst_8 : Ref sig .tc := ⟨.hbm, 88, rfl⟩
abbrev main_call0_v50 : Ref sig .tc := ⟨.hbm, 89, rfl⟩
abbrev main_call0_v51 : Ref sig .tc := ⟨.hbm, 90, rfl⟩
abbrev main_call0_v52 : Ref sig .tc := ⟨.hbm, 91, rfl⟩
abbrev main_call0_v53 : Ref sig .tc := ⟨.hbm, 92, rfl⟩
abbrev main_call0_v54 : Ref sig .tc := ⟨.hbm, 93, rfl⟩
abbrev main_call0_v55 : Ref sig .tc := ⟨.hbm, 94, rfl⟩
abbrev main_call0_v56 : Ref sig .tc := ⟨.hbm, 95, rfl⟩
abbrev main_call0_v57 : Ref sig .tc := ⟨.hbm, 96, rfl⟩
abbrev main_call0_v58 : Ref sig .tc := ⟨.hbm, 97, rfl⟩
abbrev main_call0_v59 : Ref sig .tc := ⟨.hbm, 98, rfl⟩
abbrev main_call0_v60 : Ref sig .tc := ⟨.hbm, 99, rfl⟩
abbrev main_call0_v61 : Ref sig .tc := ⟨.hbm, 100, rfl⟩
abbrev main_call0_v62 : Ref sig .tc := ⟨.hbm, 101, rfl⟩
abbrev main_call0_v63 : Ref sig .tc := ⟨.hbm, 102, rfl⟩
abbrev main_call0_cst_9 : Ref sig .tc := ⟨.hbm, 103, rfl⟩
abbrev main_call0_v64 : Ref sig .tc := ⟨.hbm, 104, rfl⟩
abbrev main_call0_v65 : Ref sig .tc := ⟨.hbm, 105, rfl⟩
abbrev main_call0_v66 : Ref sig .tc := ⟨.hbm, 106, rfl⟩
abbrev main_v0_0 : Ref sig .tc := ⟨.hbm, 107, rfl⟩
abbrev main_v0_1 : Ref sig .tc := ⟨.hbm, 108, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 4], ![false, false]⟩

def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, arg0.toNat, c0_i32.toNat, c0_i32_0.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, arg0.toNat, c0_i32.toNat, c0_i32_0.toNat, c0_i32_1.toNat, c0_i32_2.toNat]

def cc0_transform_2 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, arg0.toNat, c0_i32.toNat, c0_i32_0.toNat, c0_i32_1.toNat, c0_i32_2.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg1.toNat, arg0.toNat, c0_i32.toNat, c0_i32_0.toNat, c0_i32_1.toNat, c0_i32_2.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x8x4x196x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x4x196x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x4x196x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x8x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S6x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S96x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x8x4x196x96 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x96 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel2Ideal.lean ====
variable {F : FTy → Type} [FloatOps F] [Named F]
def κ : String → Option EReal := fun
  | "inv_count" => some ((1 / 3136 : ℝ) : EReal)
  | _ => none
-- ==== Kernel3.lean ====
abbrev S4x2x8x4x196x96 : Shape := ⟨6, ![4, 2, 8, 4, 196, 96]⟩
abbrev S2x4x2x96 : Shape := ⟨4, ![2, 4, 2, 96]⟩
abbrev S96 : Shape := ⟨1, ![96]⟩
abbrev S_ : Shape := ⟨0, ![]⟩
abbrev S2x96 : Shape := ⟨2, ![2, 96]⟩
abbrev S1x96 : Shape := ⟨2, ![1, 96]⟩
abbrev S4x2x2x2x2x4x14x14x96 : Shape := ⟨9, ![4, 2, 2, 2, 2, 4, 14, 14, 96]⟩
abbrev S4x2x96x2x4x2x14x2x14 : Shape := ⟨9, ![4, 2, 96, 2, 4, 2, 14, 2, 14]⟩
abbrev S4x2x96x8x28x28 : Shape := ⟨6, ![4, 2, 96, 8, 28, 28]⟩
abbrev S1x1x8x4x196x96 : Shape := ⟨6, ![1, 1, 8, 4, 196, 96]⟩
abbrev S8x4x196x96 : Shape := ⟨4, ![8, 4, 196, 96]⟩
abbrev S1x1x1x96 : Shape := ⟨4, ![1, 1, 1, 96]⟩

abbrev nBuf : Space → Nat
  | .hbm => 32
  | .vmem => 5
  | .smem => 0
  | _ => 0

abbrev bufTy : (tb : Table) → Fin (tcTables nBuf tb) → BufTy
  | .hbm, ⟨0, _⟩ => ⟨S4x2x8x4x196x96, .f32⟩
  | .hbm, ⟨1, _⟩ => ⟨S2x4x2x96, .f32⟩
  | .hbm, ⟨2, _⟩ => ⟨S96, .f32⟩
  | .hbm, ⟨3, _⟩ => ⟨S96, .f32⟩
  | .hbm, ⟨4, _⟩ => ⟨S_, .f32⟩
  | .hbm, ⟨5, _⟩ => ⟨S2x96, .f32⟩
  | .hbm, ⟨6, _⟩ => ⟨S1x96, .f32⟩
  | .hbm, ⟨7, _⟩ => ⟨S96, .f32⟩
  | .hbm, ⟨8, _⟩ => ⟨S1x96, .f32⟩
  | .hbm, ⟨9, _⟩ => ⟨S96, .f32⟩
  | .hbm, ⟨10, _⟩ => ⟨S_, .f32⟩
  | .hbm, ⟨11, _⟩ => ⟨S96, .f32⟩
  | .hbm, ⟨12, _⟩ => ⟨S96, .f32⟩
  | .hbm, ⟨13, _⟩ => ⟨S_, .f32⟩
  | .hbm, ⟨14, _⟩ => ⟨S96, .f32⟩
  | .hbm, ⟨15, _⟩ => ⟨S96, .f32⟩
  | .hbm, ⟨16, _⟩ => ⟨S96, .f32⟩
  | .hbm, ⟨17, _⟩ => ⟨S96, .f32⟩
  | .hbm, ⟨18, _⟩ => ⟨S_, .f32⟩
  | .hbm, ⟨19, _⟩ => ⟨S96, .f32⟩
  | .hbm, ⟨20, _⟩ => ⟨S96, .f32⟩
  | .hbm, ⟨21, _⟩ => ⟨S96, .f32⟩
  | .hbm, ⟨22, _⟩ => ⟨S96, .f32⟩
  | .hbm, ⟨23, _⟩ => ⟨S96, .f32⟩
  | .hbm, ⟨24, _⟩ => ⟨S96, .f32⟩
  | .hbm, ⟨25, _⟩ => ⟨S1x96, .f32⟩
  | .hbm, ⟨26, _⟩ => ⟨S1x96, .f32⟩
  | .hbm, ⟨27, _⟩ => ⟨S2x96, .f32⟩
  | .hbm, ⟨28, _⟩ => ⟨S4x2x8x4x196x96, .f32⟩
  | .hbm, ⟨29, _⟩ => ⟨S4x2x2x2x2x4x14x14x96, .f32⟩
  | .hbm, ⟨30, _⟩ => ⟨S4x2x96x2x4x2x14x2x14, .f32⟩
  | .hbm, ⟨31, _⟩ => ⟨S4x2x96x8x28x28, .f32⟩
  | .local _ .vmem, ⟨0, _⟩ => ⟨S1x1x8x4x196x96, .f32⟩
  | .local _ .vmem, ⟨1, _⟩ => ⟨S1x1x8x4x196x96, .f32⟩
  | .local _ .vmem, ⟨2, _⟩ => ⟨S2x96, .f32⟩
  | .local _ .vmem, ⟨3, _⟩ => ⟨S1x1x8x4x196x96, .f32⟩
  | .local _ .vmem, ⟨4, _⟩ => ⟨S1x1x8x4x196x96, .f32⟩
  | _, _ => ⟨S4x2x8x4x196x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst_0 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_cst_2 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_v18 : Ref sig .tc := ⟨.hbm, 26, rfl⟩
abbrev main_call0_v19 : Ref sig .tc := ⟨.hbm, 27, rfl⟩
abbrev main_call0_v20 : Ref sig .tc := ⟨.hbm, 28, rfl⟩
abbrev main_call0_v21 : Ref sig .tc := ⟨.hbm, 29, rfl⟩
abbrev main_call0_v22 : Ref sig .tc := ⟨.hbm, 30, rfl⟩
abbrev main_v0 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 6 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![v16.toNat, v26.toNat, c0_i32_10.toNat, c0_i32_11.toNat, c0_i32_12.toNat, c0_i32_13.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 6 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  let c0_i32_14 : BitVec 32 := 0#32
  ![v16.toNat, v26.toNat, c0_i32_10.toNat, c0_i32_11.toNat, c0_i32_12.toNat, c0_i32_13.toNat]

abbrev stage0_0 : Fin 2 → Memref sig .tc .vmem S1x1x8x4x196x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x8x4x196x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S4x2x8x4x196x96 : Shape := ⟨6, ![4, 2, 8, 4, 196, 96]⟩
abbrev S2x4x2x96 : Shape := ⟨4, ![2, 4, 2, 96]⟩
abbrev S96 : Shape := ⟨1, ![96]⟩
abbrev S_ : Shape := ⟨0, ![]⟩
abbrev S2x96 : Shape := ⟨2, ![2, 96]⟩
abbrev S1x96 : Shape := ⟨2, ![1, 96]⟩
abbrev S1x1x1x1x1x96 : Shape := ⟨6, ![1, 1, 1, 1, 1, 96]⟩
abbrev S4x2x2x2x2x4x14x14x96 : Shape := ⟨9, ![4, 2, 2, 2, 2, 4, 14, 14, 96]⟩
abbrev S4x2x96x2x4x2x14x2x14 : Shape := ⟨9, ![4, 2, 96, 2, 4, 2, 14, 2, 14]⟩
abbrev S4x2x96x8x28x28 : Shape := ⟨6, ![4, 2, 96, 8, 28, 28]⟩

abbrev nBuf : Space → Nat
  | .hbm => 37
  | .vmem => 0
  | .smem => 0
  | _ => 0

abbrev bufTy : (tb : Table) → Fin (tcTables nBuf tb) → BufTy
  | .hbm, ⟨0, _⟩ => ⟨S4x2x8x4x196x96, .f32⟩
  | .hbm, ⟨1, _⟩ => ⟨S2x4x2x96, .f32⟩
  | .hbm, ⟨2, _⟩ => ⟨S96, .f32⟩
  | .hbm, ⟨3, _⟩ => ⟨S96, .f32⟩
  | .hbm, ⟨4, _⟩ => ⟨S_, .f32⟩
  | .hbm, ⟨5, _⟩ => ⟨S2x96, .f32⟩
  | .hbm, ⟨6, _⟩ => ⟨S1x96, .f32⟩
  | .hbm, ⟨7, _⟩ => ⟨S96, .f32⟩
  | .hbm, ⟨8, _⟩ => ⟨S1x96, .f32⟩
  | .hbm, ⟨9, _⟩ => ⟨S96, .f32⟩
  | .hbm, ⟨10, _⟩ => ⟨S_, .f32⟩
  | .hbm, ⟨11, _⟩ => ⟨S96, .f32⟩
  | .hbm, ⟨12, _⟩ => ⟨S96, .f32⟩
  | .hbm, ⟨13, _⟩ => ⟨S_, .f32⟩
  | .hbm, ⟨14, _⟩ => ⟨S96, .f32⟩
  | .hbm, ⟨15, _⟩ => ⟨S96, .f32⟩
  | .hbm, ⟨16, _⟩ => ⟨S96, .f32⟩
  | .hbm, ⟨17, _⟩ => ⟨S96, .f32⟩
  | .hbm, ⟨18, _⟩ => ⟨S1x1x1x1x1x96, .f32⟩
  | .hbm, ⟨19, _⟩ => ⟨S4x2x8x4x196x96, .f32⟩
  | .hbm, ⟨20, _⟩ => ⟨S4x2x8x4x196x96, .f32⟩
  | .hbm, ⟨21, _⟩ => ⟨S_, .f32⟩
  | .hbm, ⟨22, _⟩ => ⟨S96, .f32⟩
  | .hbm, ⟨23, _⟩ => ⟨S96, .f32⟩
  | .hbm, ⟨24, _⟩ => ⟨S96, .f32⟩
  | .hbm, ⟨25, _⟩ => ⟨S1x1x1x1x1x96, .f32⟩
  | .hbm, ⟨26, _⟩ => ⟨S4x2x8x4x196x96, .f32⟩
  | .hbm, ⟨27, _⟩ => ⟨S4x2x8x4x196x96, .f32⟩
  | .hbm, ⟨28, _⟩ => ⟨S1x1x1x1x1x96, .f32⟩
  | .hbm, ⟨29, _⟩ => ⟨S4x2x8x4x196x96, .f32⟩
  | .hbm, ⟨30, _⟩ => ⟨S4x2x8x4x196x96, .f32⟩
  | .hbm, ⟨31, _⟩ => ⟨S1x1x1x1x1x96, .f32⟩
  | .hbm, ⟨32, _⟩ => ⟨S4x2x8x4x196x96, .f32⟩
  | .hbm, ⟨33, _⟩ => ⟨S4x2x8x4x196x96, .f32⟩
  | .hbm, ⟨34, _⟩ => ⟨S4x2x2x2x2x4x14x14x96, .f32⟩
  | .hbm, ⟨35, _⟩ => ⟨S4x2x96x2x4x2x14x2x14, .f32⟩
  | .hbm, ⟨36, _⟩ => ⟨S4x2x96x8x28x28, .f32⟩
  | _, _ => ⟨S4x2x8x4x196x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Proof.FirstBody.lean ====
module

public import proofs.«01_k».proof.Proof.Gen.KernelIdeal.Value
public import Idealize.ShloMosaic.Lib.Pointwise
public import Idealize.ShloMosaic.PureOps.Ideal
public import Idealize.ShloMosaic.Lib.Pipeline.ValueKit

@[expose] public section

open Idealize Idealize.ShloMosaic Idealize.ShloMosaic.Pipeline
namespace Cert.KernelIdeal.First
open Cert.KernelIdeal Cert.KernelIdeal.Gen
attribute [local instance] Cert.KernelIdeal.Gen.facts₀
set_option maxRecDepth 16384

/-- The depth index the body computes for tap plane `z` of depth `d` is `d + z`. -/
theorem plane_row {d : Nat} (hd : d < 8) (z : Nat) (hz : z < 3) :
    BitVec.toNat (Scalar.indexCast (Scalar.addi (BitVec.ofNat 32 d) (BitVec.ofNat 32 z))) = d + z := by
  simp only [Scalar.indexCast, Scalar.addi]
  interval_cases d <;> interval_cases z <;> decide

/-- One tap's product, read at an entry: the sum over the input channels. -/
theorem dot_tap (P : Vec Ideal S1x1x28x28x96 .f32) (W : Vec Ideal S1x96x96 .f32) (r : Fin 784) (c : Fin 96) :
    matmul dot_S784x96_S96x96_S784x96_1_0_0_1_n_n none
      (shapeCast S784x96 (shapeCast S28x28x96 P shapeCasts_S1x1x28x28x96_S28x28x96) shapeCasts_S28x28x96_S784x96 : FVec Ideal S784x96 .f32)
      (shapeCast S96x96 W shapeCasts_S1x96x96_S96x96 : FVec Ideal S96x96 .f32) (constant S784x96 .f32 0x00000000#32) (ix2 r c)
      = ∑ k : Fin 96, P (ix5 0 0 ⟨r / 28, by omega⟩ ⟨r % 28, by omega⟩ k) * W (ix3 0 k c) := by
  pointwise

/-- The product of one plane with one tap's weights at row `r` and output channel `c`. -/
noncomputable def dotAt (P : Vec Ideal S1x1x28x28x96 .f32) (W : Vec Ideal S1x96x96 .f32) (r : Fin 784) (c : Fin 96) : EReal :=
  ∑ k : Fin 96, P (ix5 0 0 ⟨r / 28, by omega⟩ ⟨r % 28, by omega⟩ k) * W (ix3 0 k c)

/-- One tap's product as a whole array. -/
theorem dot_tap' (P : Vec Ideal S1x1x28x28x96 .f32) (W : Vec Ideal S1x96x96 .f32) :
    (matmul dot_S784x96_S96x96_S784x96_1_0_0_1_n_n none
      (shapeCast S784x96 (shapeCast S28x28x96 P shapeCasts_S1x1x28x28x96_S28x28x96) shapeCasts_S28x28x96_S784x96 : FVec Ideal S784x96 .f32)
      (shapeCast S96x96 W shapeCasts_S1x96x96_S96x96 : FVec Ideal S96x96 .f32) (constant S784x96 .f32 0x00000000#32) : FVec Ideal S784x96 .f32)
      = fun j => dotAt P W (j 0) (j 1) := by
  funext j
  exact (congrArg _ (eq_ix2 j)).trans (dot_tap P W (j 0) (j 1))

/-- A shifted plane read out of the padded image, entry by entry. -/
theorem ld_plane (X : Vec Ideal S1x10x30x30x96 .f32) (z a b : Nat) (inb : ∀ l, ![0, z, a, b, 0] l + ![1, 1, 28, 28, 96] l ≤ S1x10x30x30x96.size l) (y x : Fin 28) (k : Fin 96) :
   View.ld X (Rect.unit ![0, z, a, b, 0] ![1, 1, 28, 28, 96] inb) (ix5 0 0 y x k)
     = X (ix5 0 ⟨z, inb 1⟩ ⟨a + y, by have := inb 2; simp at this; omega⟩ ⟨b + x, by have := inb 3; simp at this; omega⟩ k) := by
  pointwise

/-- One tap's weights read out of all the weights, entry by entry. -/
theorem ld_weight (W : Vec Ideal S27x96x96 .f32) (t : Nat) (inb : ∀ l, ![t, 0, 0] l + ![1, 96, 96] l ≤ S27x96x96.size l) (k c : Fin 96) :
   View.ld W (Rect.unit ![t, 0, 0] ![1, 96, 96] inb) (ix3 0 k c) = W (ix3 ⟨t, inb 0⟩ k c) := by
  pointwise

/-- Six zero offsets are the zero offset. -/
theorem hz6 : (![0, 0, 0, 0, 0, 0] : Fin 6 → Nat) = fun _ => 0 := funext fun a => by fin_cases a <;> rfl

/-- What tap `t` adds to the convolution at depth `d`, place `(y, x)` and output channel `c`. -/
noncomputable def tap (X : Vec Ideal S1x10x30x30x96 .f32) (W : Vec Ideal S27x96x96 .f32) (d : Fin 8) (y x : Fin 28) (c : Fin 96) (t : Fin 27) : EReal :=
  ∑ k : Fin 96, X (ix5 0 ⟨d + t / 9, by omega⟩ ⟨y + t % 9 / 3, by omega⟩ ⟨x + t % 3, by omega⟩ k) * W (ix3 t k c)

/-- The 27-tap convolution of one padded image: the sum of its taps. -/
noncomputable def qv (X : Vec Ideal S1x10x30x30x96 .f32) (W : Vec Ideal S27x96x96 .f32) (d : Fin 8) (y x : Fin 28) (c : Fin 96) : EReal :=
  ∑ t : Fin 27, tap X W d y x c t

/-- The pointwise convolution of one padded image. -/
noncomputable def kv (X : Vec Ideal S1x10x30x30x96 .f32) (W : Vec Ideal S96x96 .f32) (d : Fin 8) (y x : Fin 28) (c : Fin 96) : EReal :=
  ∑ k : Fin 96, X (ix5 0 ⟨d + 1, by omega⟩ ⟨y + 1, by omega⟩ ⟨x + 1, by omega⟩ k) * W (ix2 k c)

/-- The image itself, without its padding. -/
noncomputable def xv (X : Vec Ideal S1x10x30x30x96 .f32) (d : Fin 8) (y x : Fin 28) (c : Fin 96) : EReal :=
  X (ix5 0 ⟨d + 1, by omega⟩ ⟨y + 1, by omega⟩ ⟨x + 1, by omega⟩ c)

/-- The centre plane as a matrix, read at an entry. -/
theorem pay15_at (P : Vec Ideal S1x1x28x28x96 .f32) (r : Fin 784) (e : Fin 96) :
    k0_pay15 P (ix2 r e) = P (ix5 0 0 ⟨r / 28, by omega⟩ ⟨r % 28, by omega⟩ e) := by
  unfold k0_pay15; pointwise

/-- The pointwise product, read at an entry. -/
theorem pay16_at (P : Vec Ideal S1x1x28x28x96 .f32) (W : Vec Ideal S96x96 .f32) (r : Fin 784) (e : Fin 96) :
    k0_pay16 P W (ix2 r e) = ∑ k : Fin 96, P (ix5 0 0 ⟨r / 28, by omega⟩ ⟨r % 28, by omega⟩ k) * W (ix2 k e) := by
  unfold k0_pay16 k0_pay15; pointwise

/-- The plane's row of position `p` of window `w`. -/
def wrow (w : Fin 4) (p : Fin 196) : Fin 28 := ⟨w / 2 * 14 + p / 14, by omega⟩
/-- The plane's column of position `p` of window `w`. -/
def wcol (w : Fin 4) (p : Fin 196) : Fin 28 := ⟨w % 2 * 14 + p % 14, by omega⟩
/-- The place, counted along the flattened plane, of position `p` of window `w`. -/
def wpos (w : Fin 4) (p : Fin 196) : Fin 784 := ⟨(wrow w p).val * 28 + (wcol w p).val, by have := (wrow w p).isLt; have := (wcol w p).isLt; omega⟩
/-- The row is recovered from the flattened place. -/
theorem wpos_div (w : Fin 4) (p : Fin 196) (h) : (⟨(wpos w p).val / 28, h⟩ : Fin 28) = wrow w p := by
  apply Fin.ext; have := (wcol w p).isLt; simp only [wpos]; omega
/-- The column is recovered from the flattened place. -/
theorem wpos_mod (w : Fin 4) (p : Fin 196) (h) : (⟨(wpos w p).val % 28, h⟩ : Fin 28) = wcol w p := by
  apply Fin.ext; have := (wcol w p).isLt; simp only [wpos]; omega

/-- The sum of channel `e` over a whole plane, row after row. -/
noncomputable def planeSum (f : Fin 28 → Fin 28 → Fin 96 → EReal) (e : Fin 96) : EReal :=
  ∑ r : Fin 784, f ⟨r / 28, by omega⟩ ⟨r % 28, by omega⟩ e
/-- The sum of channel `e` over window `w` of a plane. -/
noncomputable def winSum (f : Fin 28 → Fin 28 → Fin 96 → EReal) (w : Fin 4) (e : Fin 96) : EReal :=
  ∑ p : Fin 196, f (wrow w p) (wcol w p) e
/-- The six sums of a plane: q, q squared, k, k squared, x, x squared. -/
noncomputable def sums6 (q k x : Fin 28 → Fin 28 → Fin 96 → EReal) (s : Fin 6) (e : Fin 96) : EReal :=
  if s.val = 0 then planeSum q e else if s.val = 1 then planeSum (fun y z e => q y z e * q y z e) e
  else if s.val = 2 then planeSum k e else if s.val = 3 then planeSum (fun y z e => k y z e * k y z e) e
  else if s.val = 4 then planeSum x e else planeSum (fun y z e => x y z e * x y z e) e
/-- The eight window sums of a plane: four of q, then four of k. -/
noncomputable def sums8 (q k : Fin 28 → Fin 28 → Fin 96 → EReal) (s : Fin 8) (e : Fin 96) : EReal :=
  if h : s.val < 4 then winSum q ⟨s, h⟩ e else winSum k ⟨s - 4, by omega⟩ e

/-- A plane cut into its four windows, read at an entry. -/
theorem split_at (A : FVec Ideal S784x96 .f32) (w : Fin 4) (p : Fin 196) (e : Fin 96) :
    (shapeCast S4x196x96 (transpose S2x2x14x14x96 [0, 2, 1, 3, 4] (shapeCast S2x14x2x14x96 (shapeCast S28x28x96 A shapeCasts_S784x96_S28x28x96) shapeCasts_S28x28x96_S2x14x2x14x96 : FVec Ideal S2x14x2x14x96 .f32) transposes_S2x14x2x14x96_p0_2_1_3_4_S2x2x14x14x96) shapeCasts_S2x2x14x14x96_S4x196x96 : FVec Ideal S4x196x96 .f32)
      (ix3 w p e) = A (ix2 (wpos w p) e) := by
  have hw : (wpos w p).val = (w.val / 2 * 14 + p.val / 14) * 28 + (w.val % 2 * 14 + p.val % 14) := rfl
  pointwise
  exact congrArg A (congrArg (fun t => ix2 t e) (Fin.ext (by dsimp only; omega)))

/-- Four windows given their unit axes, read at an entry. -/
theorem cast6_at (A : FVec Ideal S4x196x96 .f32) (w : Fin 4) (p : Fin 196) (e : Fin 96) :
    (shapeCast S1x1x4x1x196x96 A shapeCasts_S4x196x96_S1x1x4x1x196x96 : FVec Ideal S1x1x4x1x196x96 .f32) (ix6 0 0 w 0 p e) = A (ix3 w p e) := by
  pointwise

/-- The sum over all rows of a plane, read at an entry. -/
theorem rowSum_at (A : FVec Ideal S784x96 .f32) (z : S1x1x1x96.Idx) :
    (shapeCast S1x1x1x96 (multiReduction .add [0] S96 A 0x00000000#32 reduces_S784x96_S96 (.inl rfl) rfl : FVec Ideal S96 .f32) shapeCasts_S96_S1x1x1x96 : FVec Ideal S1x1x1x96 .f32) z
      = ∑ r : Fin 784, A (ix2 r (z 3)) := by
  pointwise

/-- The sum over each window's positions, read at an entry. -/
theorem winRows_at (A : FVec Ideal S4x196x96 .f32) (z : S1x1x4x96.Idx) :
    (shapeCast S1x1x4x96 (multiReduction .add [1] S4x96 A 0x00000000#32 reduces_S4x196x96_S4x96 (.inl rfl) rfl : FVec Ideal S4x96 .f32) shapeCasts_S4x96_S1x1x4x96 : FVec Ideal S1x1x4x96 .f32) z
      = ∑ p : Fin 196, A (ix3 (z 2) p (z 3)) := by
  pointwise

section
variable (c : Dev nD) (i : grid0.Coords) (a2 : Memref sig .tc .vmem S1x10x30x30x96 .f32) (h2 : a2.IsWhole)
  (a3 : Memref sig .tc .vmem S27x96x96 .f32) (h3 : a3.IsWhole) (a4 : Memref sig .tc .vmem S96x96 .f32) (h4 : a4.IsWhole)
  (a5 : Memref sig .tc .vmem S1x1x4x1x196x96 .f32) (h5 : a5.IsWhole) (a6 : Memref sig .tc .vmem S1x1x4x1x196x96 .f32) (h6 : a6.IsWhole)
  (a7 : Memref sig .tc .vmem S1x1x4x1x196x96 .f32) (h7 : a7.IsWhole) (a8 : Memref sig .tc .vmem S1x1x6x96 .f32) (h8 : a8.IsWhole)
  (a9 : Memref sig .tc .vmem S1x1x8x96 .f32) (h9 : a9.IsWhole)
  (x0 : Vec Ideal S1x10x30x30x96 .f32) (x1 : Vec Ideal S27x96x96 .f32) (x2 : Vec Ideal S96x96 .f32)

/-- What the body has accumulated after the 27 taps is the convolution. -/
theorem acc_eq (r : Fin 784) (e : Fin 96) : (kernelRun0_A.sl.r_15 c i a2 h2 a3 h3 x0 x1) (ix2 r e) = qv x0 x1 (i 1) ⟨r / 28, by omega⟩ ⟨r % 28, by omega⟩ e := by
  have H : ∀ (t : Fin 27) (z a b w : Nat) (inb : ∀ l, ![0, z, a, b, 0] l + ![1, 1, 28, 28, 96] l ≤ S1x10x30x30x96.size l)
      (inb' : ∀ l, ![w, 0, 0] l + ![1, 96, 96] l ≤ S27x96x96.size l),
      z = (i 1 : Nat) + t / 9 → a = t % 9 / 3 → b = t % 3 → w = t →
      dotAt (View.ld x0 (Rect.unit ![0, z, a, b, 0] ![1, 1, 28, 28, 96] inb)) (View.ld x1 (Rect.unit ![w, 0, 0] ![1, 96, 96] inb')) r e
        = tap x0 x1 (i 1) ⟨r / 28, by omega⟩ ⟨r % 28, by omega⟩ e t := by
    intro t z a b w inb inb' hz ha hb hw
    subst hz ha hb hw
    unfold dotAt tap
    refine Finset.sum_congr rfl fun k _ => ?_
    rw [ld_plane, ld_weight]
    congr 3 <;> (apply Fin.ext; dsimp only; omega)
  have hi : (i 1 : Nat) < 8 := (i 1).isLt
  sl_unfold_words
  simp only [View.readAt_eq_ld, h2.read_unread, h3.read_unread]
  unfold k0_pay14 k0_pay13 k0_pay12 k0_pay11 k0_pay10 k0_pay9 k0_pay8 k0_pay7 k0_pay6 k0_pay5 k0_pay4
  dsimp only
  simp only [addf_apply, dot_tap']
  unfold qv
  simp only [Fin.sum_univ_castSucc]
  iterate 27 refine congrArg₂ _ ?_ (H _ _ _ _ _ _ _ (plane_row hi _ (by decide)) rfl rfl rfl)
  pointwise
  simp

/-- The body's centre plane is the image without its padding. -/
theorem cen_eq (r : Fin 784) (e : Fin 96) : (kernelRun0_A.sl.r_16 c i a2 h2 x0) (ix2 r e) = xv x0 (i 1) ⟨r / 28, by omega⟩ ⟨r % 28, by omega⟩ e := by
  have hi : (i 1 : Nat) < 8 := (i 1).isLt
  unfold kernelRun0_A.sl.r_16
  simp only [pay15_at, View.readAt_eq_ld, h2.read_unread]
  refine (ld_plane _ _ _ _ _ _ _ _).trans (congrArg x0 ?_)
  congr 1 <;> (apply Fin.ext; first | exact plane_row hi 1 (by decide) | (dsimp only; omega))
/-- The body's second product is the pointwise convolution. -/
theorem kout_eq (r : Fin 784) (e : Fin 96) : (kernelRun0_A.sl.r_17 c i a2 h2 a4 h4 x0 x2) (ix2 r e) = kv x0 x2 (i 1) ⟨r / 28, by omega⟩ ⟨r % 28, by omega⟩ e := by
  have hi : (i 1 : Nat) < 8 := (i 1).isLt
  unfold kernelRun0_A.sl.r_17
  simp only [pay16_at, View.readAt_eq_ld, h2.read_unread, h4.read_unread]
  refine Finset.sum_congr rfl fun k _ => congrArg₂ _ ((ld_plane _ _ _ _ _ _ _ _).trans (congrArg x0 ?_)) ?_
  · congr 1 <;> (apply Fin.ext; first | exact plane_row hi 1 (by decide) | (dsimp only; omega))
  · pointwise

/-- The block of q the body stores, entry by entry. -/
theorem out3_at (w : Fin 4) (p : Fin 196) (e : Fin 96) :
    out0_A_3 c i a2 h2 a3 h3 a4 h4 a5 h5 a6 h6 a7 h7 a8 h8 a9 h9 x0 x1 x2 (ix6 0 0 w 0 p e) = qv x0 x1 (i 1) (wrow w p) (wcol w p) e := by
  unfold out0_A_3
  rw [View.read_writes_eq_canon _ _ _ (cover0_A_3 c i a2 h2 a3 h3 a4 h4 a5 h5 a6 h6 a7 h7 a8 h8 a9 h9 x0 x1 x2)]
  unfold kernelRun0_A
  dsimp only
  rw [View.canon_unit_zero hz6]
  refine (cast6_at (kernelRun0_A.sl.r_18 c i a2 h2 a3 h3 x0 x1) w p e).trans ?_
  refine (split_at (kernelRun0_A.sl.r_15 c i a2 h2 a3 h3 x0 x1) w p e).trans ?_
  rw [acc_eq, wpos_div, wpos_mod]

/-- The block of k the body stores, entry by entry. -/
theorem out4_at (w : Fin 4) (p : Fin 196) (e : Fin 96) :
    out0_A_4 c i a2 h2 a3 h3 a4 h4 a5 h5 a6 h6 a7 h7 a8 h8 a9 h9 x0 x1 x2 (ix6 0 0 w 0 p e) = kv x0 x2 (i 1) (wrow w p) (wcol w p) e := by
  unfold out0_A_4
  rw [View.read_writes_eq_canon _ _ _ (cover0_A_4 c i a2 h2 a3 h3 a4 h4 a5 h5 a6 h6 a7 h7 a8 h8 a9 h9 x0 x1 x2)]
  unfold kernelRun0_A
  dsimp only
  rw [View.canon_unit_zero hz6]
  refine (cast6_at (kernelRun0_A.sl.r_19 c i a2 h2 a4 h4 x0 x2) w p e).trans ?_
  refine (split_at (kernelRun0_A.sl.r_17 c i a2 h2 a4 h4 x0 x2) w p e).trans ?_
  rw [kout_eq, wpos_div, wpos_mod]

/-- The block of x the body stores, entry by entry. -/
theorem out5_at (w : Fin 4) (p : Fin 196) (e : Fin 96) :
    out0_A_5 c i a2 h2 a3 h3 a4 h4 a5 h5 a6 h6 a7 h7 a8 h8 a9 h9 x0 x1 x2 (ix6 0 0 w 0 p e) = xv x0 (i 1) (wrow w p) (wcol w p) e := by
  unfold out0_A_5
  rw [View.read_writes_eq_canon _ _ _ (cover0_A_5 c i a2 h2 a3 h3 a4 h4 a5 h5 a6 h6 a7 h7 a8 h8 a9 h9 x0 x1 x2)]
  unfold kernelRun0_A
  dsimp only
  rw [View.canon_unit_zero hz6]
  refine (cast6_at (kernelRun0_A.sl.r_20 c i a2 h2 x0) w p e).trans ?_
  refine (split_at (kernelRun0_A.sl.r_16 c i a2 h2 x0) w p e).trans ?_
  rw [cen_eq, wpos_div, wpos_mod]

/-- The plane sums the body stores, entry by entry. -/
theorem out6_at (s : Fin 6) (e : Fin 96) :
    out0_A_6 c i a2 h2 a3 h3 a4 h4 a5 h5 a6 h6 a7 h7 a8 h8 a9 h9 x0 x1 x2 (ix4 0 0 s e)
      = sums6 (qv x0 x1 (i 1)) (kv x0 x2 (i 1)) (xv x0 (i 1)) s e := by
  unfold out0_A_6
  rw [View.read_writes_eq_canon _ _ _ (cover0_A_6 c i a2 h2 a3 h3 a4 h4 a5 h5 a6 h6 a7 h7 a8 h8 a9 h9 x0 x1 x2)]
  unfold kernelRun0_A
  dsimp only
  canon_tiles z hz
  all_goals
    have he : z 3 = e := Fin.ext hz3.symm
    refine (rowSum_at _ z).trans ?_
    rw [he]
    have h0 : (z 2 : Nat) = 0 := by omega
    rw [h0] at hz2
    have hs : s.val = _ := hz2
    unfold sums6
    rw [hs]
    simp only [planeSum, mulf_apply, acc_eq, kout_eq, cen_eq]
    rfl
/-- The window sums the body stores, entry by entry. -/
theorem out7_at (s : Fin 8) (e : Fin 96) :
    out0_A_7 c i a2 h2 a3 h3 a4 h4 a5 h5 a6 h6 a7 h7 a8 h8 a9 h9 x0 x1 x2 (ix4 0 0 s e)
      = sums8 (qv x0 x1 (i 1)) (kv x0 x2 (i 1)) s e := by
  unfold out0_A_7
  rw [View.read_writes_eq_canon _ _ _ (cover0_A_7 c i a2 h2 a3 h3 a4 h4 a5 h5 a6 h6 a7 h7 a8 h8 a9 h9 x0 x1 x2)]
  unfold kernelRun0_A
  dsimp only
  canon_tiles z hz
  all_goals
    have he : z 3 = e := Fin.ext hz3.symm
    refine (winRows_at _ z).trans ?_
    rw [he]
  · have hs : s.val = 4 + (z 2 : Nat) := hz2
    have hz4 : z 2 = ⟨s.val - 4, by omega⟩ := Fin.ext (by dsimp only; omega)
    unfold sums8 winSum
    rw [dif_neg (by omega), hz4]
    refine Finset.sum_congr rfl fun p _ => (split_at (kernelRun0_A.sl.r_17 c i a2 h2 a4 h4 x0 x2) _ p e).trans ?_
    exact (kout_eq c i a2 h2 a4 h4 x0 x2 _ e).trans (congrArg₂ (fun a b => kv x0 x2 (i 1) a b e) (wpos_div _ p _) (wpos_mod _ p _))
  · have hs : s.val = (z 2 : Nat) := hz2
    have hz4 : z 2 = ⟨s.val, by omega⟩ := Fin.ext (by dsimp only; omega)
    unfold sums8 winSum
    rw [dif_pos (by omega), hz4]
    refine Finset.sum_congr rfl fun p _ => (split_at (kernelRun0_A.sl.r_15 c i a2 h2 a3 h3 x0 x1) _ p e).trans ?_
    exact (acc_eq c i a2 h2 a3 h3 x0 x1 _ e).trans (congrArg₂ (fun a b => qv x0 x1 (i 1) a b e) (wpos_div _ p _) (wpos_mod _ p _))
end
end Cert.KernelIdeal.First
-- ==== Proof.FirstArrays.lean ====
module

public import proofs.«01_k».proof.Proof.FirstBody

@[expose] public section

open Idealize Idealize.ShloMosaic Idealize.ShloMosaic.Pipeline Idealize.ShloMosaic.TcCoe Idealize.SL.Sem
namespace Cert.KernelIdeal.First
open Cert.KernelIdeal Cert.KernelIdeal.Gen
attribute [local instance] Cert.KernelIdeal.Gen.facts₀
set_option maxRecDepth 16384

/-- Image `n` out of all padded images. -/
def slab (X : Vec Ideal S8x10x30x30x96 .f32) (n : Fin 8) : Vec Ideal S1x10x30x30x96 .f32 :=
  fun j => X (ix5 n (j 1) (j 2) (j 3) (j 4))

/-- The depth of plane `l` of window `w`. -/
def dep (w : Fin 8) (l : Fin 4) : Fin 8 := ⟨w / 4 * 4 + l, by omega⟩
/-- Which of its plane's four windows window `w` is. -/
def inPlane (w : Fin 8) : Fin 4 := ⟨w % 4, by omega⟩
/-- The image of time `t` and batch entry `b`. -/
def img (t : Fin 4) (b : Fin 2) : Fin 8 := ⟨t * 2 + b, by omega⟩

/-- A function of image, depth, place and channel, laid out in windows. -/
def winArr (f : Fin 8 → Fin 8 → Fin 28 → Fin 28 → Fin 96 → EReal) : Vec Ideal S4x2x8x4x196x96 .f32 :=
  fun j => f (img (j 0) (j 1)) (dep (j 2) (j 3)) (wrow (inPlane (j 2)) (j 4)) (wcol (inPlane (j 2)) (j 4)) (j 5)
/-- The six plane sums of every image and depth, as an array. -/
noncomputable def rowArr6 (q k x : Fin 8 → Fin 8 → Fin 28 → Fin 28 → Fin 96 → EReal) : Vec Ideal S8x8x6x96 .f32 :=
  fun j => sums6 (q (j 0) (j 1)) (k (j 0) (j 1)) (x (j 0) (j 1)) (j 2) (j 3)
/-- The eight window sums of every image and depth, as an array. -/
noncomputable def rowArr8 (q k : Fin 8 → Fin 8 → Fin 28 → Fin 28 → Fin 96 → EReal) : Vec Ideal S8x8x8x96 .f32 :=
  fun j => sums8 (q (j 0) (j 1)) (k (j 0) (j 1)) (j 2) (j 3)

variable (m : (ℓ : Loc nD τ sig) → Buf (Elt Ideal) ℓ)

/-- Which block of operand 0 each grid point is given. -/
theorem idx0 : ∀ t : Fin grid0.N, win0_0.index t = ![(grid0.coords t 0).val, 0, 0, 0, 0] := by decide +kernel
/-- Which block of operand 1 each grid point is given. -/
theorem idx1 : ∀ t : Fin grid0.N, win0_1.index t = ![0, 0, 0] := by decide +kernel
/-- Which block of operand 2 each grid point is given. -/
theorem idx2 : ∀ t : Fin grid0.N, win0_2.index t = ![0, 0] := by decide +kernel
/-- Which block of operand 3 each grid point is given. -/
theorem idx3 : ∀ t : Fin grid0.N, win0_3.index t = ![(grid0.coords t 0).val / 2, (grid0.coords t 0).val % 2, (grid0.coords t 1).val / 4, (grid0.coords t 1).val % 4, 0, 0] := by decide +kernel
/-- Which block of operand 4 each grid point is given. -/
theorem idx4 : ∀ t : Fin grid0.N, win0_4.index t = ![(grid0.coords t 0).val / 2, (grid0.coords t 0).val % 2, (grid0.coords t 1).val / 4, (grid0.coords t 1).val % 4, 0, 0] := by decide +kernel
/-- Which block of operand 5 each grid point is given. -/
theorem idx5 : ∀ t : Fin grid0.N, win0_5.index t = ![(grid0.coords t 0).val / 2, (grid0.coords t 0).val % 2, (grid0.coords t 1).val / 4, (grid0.coords t 1).val % 4, 0, 0] := by decide +kernel
/-- Which block of operand 6 each grid point is given. -/
theorem idx6 : ∀ t : Fin grid0.N, win0_6.index t = ![(grid0.coords t 0).val, (grid0.coords t 1).val, 0, 0] := by decide +kernel
/-- Which block of operand 7 each grid point is given. -/
theorem idx7 : ∀ t : Fin grid0.N, win0_7.index t = ![(grid0.coords t 0).val, (grid0.coords t 1).val, 0, 0] := by decide +kernel

/-- The padded images, as the launch finds them. -/
noncomputable abbrev xp (c : Dev nD) : Vec Ideal S8x10x30x30x96 .f32 := V m c main_call0_v20
/-- The 27 taps' weights, as the launch finds them. -/
noncomputable abbrev wq (c : Dev nD) : Vec Ideal S27x96x96 .f32 := V m c main_call0_v15
/-- The pointwise weights, as the launch finds them. -/
noncomputable abbrev wk (c : Dev nD) : Vec Ideal S96x96 .f32 := V m c main_call0_v17

/-- A grid point is given its whole padded image. -/
theorem blk0 (c : Dev nD) (t : Fin cfg0.N) : iblk m c 0 t = slab (xp m c) (grid0.coords t 0) := by
  funext y
  unfold slab xp
  blk_ext [iblk, idx0 t]
/-- Every grid point is given all 27 taps' weights. -/
theorem blk1 (c : Dev nD) (t : Fin cfg0.N) : iblk m c 1 t = wq m c := by
  funext y
  blk_ext [iblk, idx1 t]
/-- Every grid point is given all pointwise weights. -/
theorem blk2 (c : Dev nD) (t : Fin cfg0.N) : iblk m c 2 t = wk m c := by
  funext y
  blk_ext [iblk, idx2 t]

/-- A place in a block of windows, by its three free coordinates. -/
theorem eta3 (y : S1x1x4x1x196x96.Idx) : y = ix6 0 0 (y 2) 0 (y 4) (y 5) := by
  funext a
  fin_cases a <;> first | rfl | exact Subsingleton.elim (α := Fin 1) _ _

/-- A place in a block of plane sums, by its two free coordinates. -/
theorem eta6 (y : S1x1x6x96.Idx) : y = ix4 0 0 (y 2) (y 3) := by
  funext a
  fin_cases a <;> first | rfl | exact Subsingleton.elim (α := Fin 1) _ _
/-- A place in a block of window sums, by its two free coordinates. -/
theorem eta7 (y : S1x1x8x96.Idx) : y = ix4 0 0 (y 2) (y 3) := by
  funext a
  fin_cases a <;> first | rfl | exact Subsingleton.elim (α := Fin 1) _ _

/-- The windowed array at the place where a block's entry lands. -/
theorem winArr_at (f : Fin 8 → Fin 8 → Fin 28 → Fin 28 → Fin 96 → EReal) (n d : Fin 8) (w : Fin 4) (p : Fin 196) (e : Fin 96)
    (j : S4x2x8x4x196x96.Idx) (h0 : (j 0 : Nat) = n / 2) (h1 : (j 1 : Nat) = n % 2) (h2 : (j 2 : Nat) = d / 4 * 4 + w)
    (h3 : (j 3 : Nat) = d % 4) (h4 : (j 4 : Nat) = p) (h5 : (j 5 : Nat) = e) :
    winArr f j = f n d (wrow w p) (wcol w p) e := by
  have e0 : img (j 0) (j 1) = n := Fin.ext (by simp only [img]; omega)
  have e1 : dep (j 2) (j 3) = d := Fin.ext (by simp only [dep]; omega)
  have e2 : inPlane (j 2) = w := Fin.ext (by simp only [inPlane]; omega)
  have e4 : j 4 = p := Fin.ext h4
  have e5 : j 5 = e := Fin.ext h5
  unfold winArr
  rw [e0, e1, e2, e4, e5]

/-- The 27-tap convolution of image `n`. -/
noncomputable abbrev qf (c : Dev nD) (n : Fin 8) : Fin 8 → Fin 28 → Fin 28 → Fin 96 → EReal := qv (slab (xp m c) n) (wq m c)
/-- The pointwise convolution of image `n`. -/
noncomputable abbrev kf (c : Dev nD) (n : Fin 8) : Fin 8 → Fin 28 → Fin 28 → Fin 96 → EReal := kv (slab (xp m c) n) (wk m c)
/-- Image `n`. -/
noncomputable abbrev xf (c : Dev nD) (n : Fin 8) : Fin 8 → Fin 28 → Fin 28 → Fin 96 → EReal := xv (slab (xp m c) n)

/-- The array of plane sums at the place where a block's entry lands. -/
theorem rowArr6_at (q k x : Fin 8 → Fin 8 → Fin 28 → Fin 28 → Fin 96 → EReal) (n d : Fin 8) (s : Fin 6) (e : Fin 96)
    (j : S8x8x6x96.Idx) (h0 : (j 0 : Nat) = n) (h1 : (j 1 : Nat) = d) (h2 : (j 2 : Nat) = s) (h3 : (j 3 : Nat) = e) :
    rowArr6 q k x j = sums6 (q n d) (k n d) (x n d) s e := by
  obtain rfl : j 0 = n := Fin.ext h0
  obtain rfl : j 1 = d := Fin.ext h1
  obtain rfl : j 2 = s := Fin.ext h2
  obtain rfl : j 3 = e := Fin.ext h3
  rfl

/-- The array of window sums at the place where a block's entry lands. -/
theorem rowArr8_at (q k : Fin 8 → Fin 8 → Fin 28 → Fin 28 → Fin 96 → EReal) (n d : Fin 8) (s : Fin 8) (e : Fin 96)
    (j : S8x8x8x96.Idx) (h0 : (j 0 : Nat) = n) (h1 : (j 1 : Nat) = d) (h2 : (j 2 : Nat) = s) (h3 : (j 3 : Nat) = e) :
    rowArr8 q k j = sums8 (q n d) (k n d) s e := by
  obtain rfl : j 0 = n := Fin.ext h0
  obtain rfl : j 1 = d := Fin.ext h1
  obtain rfl : j 2 = s := Fin.ext h2
  obtain rfl : j 3 = e := Fin.ext h3
  rfl

/-- The launch leaves q, in windows. -/
theorem final3 (c : Dev nD) : (dats m 0 c).arrAt 3 cfg0.N = winArr (qf m c) := by
  refine (dats m 0 c).arrAt_eq_of_covers 3 _ (by decide +kernel) fun t hf y => ?_
  blk_simp
  rw [after0_3]
  unfold outsAt0
  dsimp only
  refine ((congrArg _ (eta3 y)).trans (out3_at c _ _ _ _ _ _ _ _ _ _ _ _ _ _ _ _ _ _ _ _ _ _ _)).trans ?_
  rw [blk0, blk1]
  refine (winArr_at (qf m c) (grid0.coords t 0) (grid0.coords t 1) (y 2) (y 4) (y 5) _ ?_ ?_ ?_ ?_ ?_ ?_).symm <;>
    blk_simp [idx3 t]
/-- The launch leaves k, in windows. -/
theorem final4 (c : Dev nD) : (dats m 0 c).arrAt 4 cfg0.N = winArr (kf m c) := by
  refine (dats m 0 c).arrAt_eq_of_covers 4 _ (by decide +kernel) fun t hf y => ?_
  blk_simp
  rw [after0_4]
  unfold outsAt0
  dsimp only
  refine ((congrArg _ (eta3 y)).trans (out4_at c _ _ _ _ _ _ _ _ _ _ _ _ _ _ _ _ _ _ _ _ _ _ _)).trans ?_
  rw [blk0, blk2]
  refine (winArr_at (kf m c) (grid0.coords t 0) (grid0.coords t 1) (y 2) (y 4) (y 5) _ ?_ ?_ ?_ ?_ ?_ ?_).symm <;>
    blk_simp [idx4 t]
/-- The launch leaves x, in windows. -/
theorem final5 (c : Dev nD) : (dats m 0 c).arrAt 5 cfg0.N = winArr (xf m c) := by
  refine (dats m 0 c).arrAt_eq_of_covers 5 _ (by decide +kernel) fun t hf y => ?_
  blk_simp
  rw [after0_5]
  unfold outsAt0
  dsimp only
  refine ((congrArg _ (eta3 y)).trans (out5_at c _ _ _ _ _ _ _ _ _ _ _ _ _ _ _ _ _ _ _ _ _ _ _)).trans ?_
  rw [blk0]
  refine (winArr_at (xf m c) (grid0.coords t 0) (grid0.coords t 1) (y 2) (y 4) (y 5) _ ?_ ?_ ?_ ?_ ?_ ?_).symm <;>
    blk_simp [idx5 t]

/-- The launch leaves the plane sums. -/
theorem final6 (c : Dev nD) : (dats m 0 c).arrAt 6 cfg0.N = rowArr6 (qf m c) (kf m c) (xf m c) := by
  refine (dats m 0 c).arrAt_eq_of_covers 6 _ (by decide +kernel) fun t hf y => ?_
  blk_simp
  rw [after0_6]
  unfold outsAt0
  dsimp only
  refine ((congrArg _ (eta6 y)).trans (out6_at c _ _ _ _ _ _ _ _ _ _ _ _ _ _ _ _ _ _ _ _ _ _)).trans ?_
  rw [blk0, blk1, blk2]
  refine (rowArr6_at (qf m c) (kf m c) (xf m c) (grid0.coords t 0) (grid0.coords t 1) (y 2) (y 3) _ ?_ ?_ ?_ ?_).symm <;>
    blk_simp [idx6 t]

/-- The launch leaves the window sums. -/
theorem final7 (c : Dev nD) : (dats m 0 c).arrAt 7 cfg0.N = rowArr8 (qf m c) (kf m c) := by
  refine (dats m 0 c).arrAt_eq_of_covers 7 _ (by decide +kernel) fun t hf y => ?_
  blk_simp
  rw [after0_7]
  unfold outsAt0
  dsimp only
  refine ((congrArg _ (eta7 y)).trans (out7_at c _ _ _ _ _ _ _ _ _ _ _ _ _ _ _ _ _ _ _ _ _ _)).trans ?_
  rw [blk0, blk1, blk2]
  refine (rowArr8_at (qf m c) (kf m c) (grid0.coords t 0) (grid0.coords t 1) (y 2) (y 3) _ ?_ ?_ ?_ ?_).symm <;>
    blk_simp [idx7 t]

end Cert.KernelIdeal.First
-- ==== Proof.HostReads.lean ====
module

public import Idealize.ShloMosaic.Lib.Claim
public import Idealize.ShloMosaic.Lib.StableHlo.ReadAt
public import Idealize.ShloMosaic.PureOps.Ideal

@[expose] public section

/-! Reading a buffer in the middle of a list of host operations. -/

open Idealize Idealize.ShloMosaic Idealize.ShloMosaic.TcCoe
namespace Cert.Reads

/-- A buffer that no later operation writes holds, after the first `n` operations, what it holds at the end. -/
theorem read_early {τ : Topo} {sig : RefSig} {ops : List (HloOp τ sig (Elt Ideal))} (n : ℕ) (W : List (Ref sig .tc)) {r : Ref sig .tc}
    (hW : (ops.drop n).map HloOp.writes = W.map fun w => {Proc.devRef (τ := τ) .tc w}) (hr : r ∉ W) (σ : (b : DevRef τ sig) → b.ty.Contents (Elt Ideal)) :
    StableHlo.upto ops σ n (Proc.devRef .tc r) = StableHlo.after ops σ (Proc.devRef .tc r) := by
  have h := StableHlo.after_append (ops.take n) (ops.drop n) σ
  rw [List.take_append_drop] at h
  rw [h, StableHlo.after_unwritten W hW hr]
  rfl

end Cert.Reads
-- ==== Proof.FirstEntry.lean ====
module

public import proofs.«01_k».proof.Proof.FirstArrays
public import proofs.«01_k».proof.Proof.HostReads
public import Idealize.ShloMosaic.Lib.Claim
public import Idealize.ShloMosaic.Lib.StableHlo.ReadAt
public import Idealize.ShloMosaic.Lib.Routing.OpsPair

@[expose] public section

open Idealize Idealize.ShloMosaic Idealize.ShloMosaic.Pipeline Idealize.ShloMosaic.TcCoe Idealize.SL.Sem
namespace Cert.KernelIdeal.First
open Cert.KernelIdeal Cert.KernelIdeal.Gen
attribute [local instance] Cert.KernelIdeal.Gen.facts₀
set_option maxRecDepth 16384
variable (m : (ℓ : Loc nD τ sig) → Buf (Elt Ideal) ℓ)
/-- The images. -/
noncomputable abbrev a0 (c : Dev nD) : Vec Ideal S4x2x96x8x28x28 .f32 := m ((c : Thread nD τ).loc main_arg0)
/-- The weights of the 27-tap convolution. -/
noncomputable abbrev a1 (c : Dev nD) : Vec Ideal S96x96x3x3x3 .f32 := m ((c : Thread nD τ).loc main_arg1)
/-- The weights of the pointwise convolution. -/
noncomputable abbrev a2 (c : Dev nD) : Vec Ideal S96x96x1x1x1 .f32 := m ((c : Thread nD τ).loc main_arg2)

/-- A fold that changes nothing at any element leaves its start. -/
theorem foldl_none {ι α : Type} (p : ι → Prop) [DecidablePred p] (g : α → ι → α) :
    ∀ (L : List ι) (x : α), (∀ n ∈ L, ¬ p n) → L.foldl (fun a n => if p n then g a n else a) x = x
  | [], _, _ => rfl
  | n :: L, x, h => by
    rw [List.foldl_cons, if_neg (h n List.mem_cons_self)]
    exact foldl_none p g L x fun j hj => h j (List.mem_cons_of_mem _ hj)

/-- A fold that acts at one element only is that one action. -/
theorem foldl_once {ι α : Type} (p : ι → Prop) [DecidablePred p] (g : α → ι → α) (n₀ : ι) (hp : ∀ n, p n ↔ n = n₀) :
    ∀ (L : List ι) (x : α), L.Nodup → n₀ ∈ L → L.foldl (fun a n => if p n then g a n else a) x = g x n₀
  | [], _, _, h => absurd h List.not_mem_nil
  | n :: L, x, hn, h => by
    rw [List.foldl_cons]
    by_cases e : n = n₀
    · subst e
      rw [if_pos ((hp n).2 rfl)]
      exact foldl_none p g L _ fun j hj q => (List.nodup_cons.1 hn).1 ((hp j).1 q ▸ hj)
    · rw [if_neg fun q => e ((hp n).1 q)]
      exact foldl_once p g n₀ hp L x (List.nodup_cons.1 hn).2 ((List.mem_cons.1 h).resolve_left fun q => e q.symm)

/-- The scattered entry lands at its own channels and the centre tap, and only there. -/
theorem centre_lands (idx : IVec S3 32) (h : ∀ i, idx i = 1#32) (a b a' b' : Fin 96) (p q r : Fin 3) :
    scatter_S96x96x3x3x3_S3_S96x96_01_234_234_0.resultIdx? (ix2 a b) idx = some (ix5 a' b' p q r)
      ↔ (a = a' ∧ b = b') ∧ p = 1 ∧ q = 1 ∧ r = 1 := by
  have hs : ∀ (x : Fin 5), scatter_S96x96x3x3x3_S3_S96x96_01_234_234_0.start (ix2 a b) idx x = if 2 ≤ x.val then 1 else 0 := fun x => by
    unfold ScatterDims.start
    split
    · rename_i hx
      rw [h, if_pos]
      · rfl
      · revert hx
        revert x
        show ∀ x : Fin 5, x ∈ ([2, 3, 4] : List (Fin 5)) → 2 ≤ x.val
        decide
    · rename_i hx
      rw [if_neg]
      revert hx
      revert x
      show ∀ x : Fin 5, x ∉ ([2, 3, 4] : List (Fin 5)) → ¬ 2 ≤ x.val
      decide
  rw [Routing.resultIdx?_eq_some]
  constructor
  · intro H
    have h0 := H 0
    have h1 := H 1
    have h2 := H 2
    have h3 := H 3
    have h4 := H 4
    rw [hs] at h0 h1 h2 h3 h4
    have w0 : scatter_S96x96x3x3x3_S3_S96x96_01_234_234_0.window (ix2 a b) 0 = a.val := rfl
    have w1 : scatter_S96x96x3x3x3_S3_S96x96_01_234_234_0.window (ix2 a b) 1 = b.val := rfl
    have w2 : scatter_S96x96x3x3x3_S3_S96x96_01_234_234_0.window (ix2 a b) 2 = 0 := rfl
    have w3 : scatter_S96x96x3x3x3_S3_S96x96_01_234_234_0.window (ix2 a b) 3 = 0 := rfl
    have w4 : scatter_S96x96x3x3x3_S3_S96x96_01_234_234_0.window (ix2 a b) 4 = 0 := rfl
    rw [w0] at h0
    rw [w1] at h1
    rw [w2] at h2
    rw [w3] at h3
    rw [w4] at h4
    change (0 : Int) + (a.val : Int) = (a'.val : Int) at h0
    change (0 : Int) + (b.val : Int) = (b'.val : Int) at h1
    change (1 : Int) + ((0 : Nat) : Int) = (p.val : Int) at h2
    change (1 : Int) + ((0 : Nat) : Int) = (q.val : Int) at h3
    change (1 : Int) + ((0 : Nat) : Int) = (r.val : Int) at h4
    have hp : p.val = 1 := by omega
    have hq : q.val = 1 := by omega
    have hr : r.val = 1 := by omega
    exact ⟨⟨Fin.ext (by omega), Fin.ext (by omega)⟩, Fin.ext hp, Fin.ext hq, Fin.ext hr⟩
  · rintro ⟨⟨rfl, rfl⟩, rfl, rfl, rfl⟩ x
    rw [hs]
    fin_cases x
    · show (0 : Int) + (a.val : Int) = (a.val : Int); omega
    · show (0 : Int) + (b.val : Int) = (b.val : Int); omega
    · rfl
    · rfl
    · rfl

/-- The scatter changes the centre tap and leaves every other one. -/
theorem centre_scatter (f : EReal → EReal → EReal) (X : S96x96x3x3x3.Idx → EReal) (idx : IVec S3 32) (h : ∀ i, idx i = 1#32)
    (U : S96x96.Idx → EReal) (a b : Fin 96) (p q r : Fin 3) :
    Host.scatter scatter_S96x96x3x3x3_S3_S96x96_01_234_234_0 f X idx U (ix5 a b p q r)
      = if p = 1 ∧ q = 1 ∧ r = 1 then f (X (ix5 a b p q r)) (U (ix2 a b)) else X (ix5 a b p q r) := by
  rw [Routing.scatter_at]
  have key : ∀ n, scatter_S96x96x3x3x3_S3_S96x96_01_234_234_0.resultIdx? (S96x96.rowMajor.symm n) idx = some (ix5 a b p q r)
      ↔ S96x96.rowMajor.symm n = ix2 a b ∧ p = 1 ∧ q = 1 ∧ r = 1 := fun n => by
    generalize S96x96.rowMajor.symm n = j
    obtain ⟨u, v, rfl⟩ : ∃ u v : Fin 96, j = ix2 u v := ⟨j 0, j 1, ValueIdx.eq_ix2 j⟩
    rw [centre_lands idx h]
    refine and_congr ⟨fun ⟨e, e'⟩ => by rw [e, e'], fun e => ⟨congrFun e 0, congrFun e 1⟩⟩ Iff.rfl
  by_cases hc : p = 1 ∧ q = 1 ∧ r = 1
  · rw [if_pos hc]
    refine (foldl_once _ _ (S96x96.rowMajor (ix2 a b)) (fun n => ?_) _ _ (List.nodup_finRange _) (List.mem_finRange _)).trans ?_
    · rw [key n, and_iff_left hc, Equiv.symm_apply_eq]
    · rw [Equiv.symm_apply_apply]
  · rw [if_neg hc]
    exact foldl_none _ _ _ _ fun n _ q => hc ((key n).1 q).2

/-- The weights with the centre changed, as the launch finds them. -/
noncomputable abbrev weff (c : Dev nD) : Vec Ideal S96x96x3x3x3 .f32 := V m c main_call0_v13
/-- What is added to the centre weights. -/
noncomputable abbrev kdn (c : Dev nD) : Vec Ideal S96x96 .f32 := V m c main_call0_v8
/-- The three coordinates at which the scatter writes. -/
noncomputable abbrev ixv (c : Dev nD) : IVec S3 32 := V m c main_call0_v12

/-- The arrays written from the scatter on. -/
abbrev late : List (Ref sig .tc) := [main_call0_v13, main_call0_v14, main_call0_v15, main_call0_v16, main_call0_v17, main_call0_v18, main_call0_v19, main_call0_c_4, main_call0_call0_v0, main_call0_v20]

/-- The changed weights are the scatter of the added amount into the weights. -/
theorem weff_eq (c : Dev nD) : weff m c
    = Host.scatter scatter_S96x96x3x3x3_S3_S96x96_01_234_234_0 (FloatOps.addf (F := Ideal) (φ := .f32)) (a1 m c) (ixv m c) (kdn m c) := by
  unfold weff kdn ixv V
  refine (StableHlo.after_last_write (i := 19) late.tail rfl rfl (by decide) _).trans ((StableHlo.ternary_result' _ _ _ _ _ _).trans ?_)
  have ha : StableHlo.upto hostOps0 (fun b => m (c, b)) 19 (Proc.devRef .tc main_arg1) = m (c, Proc.devRef .tc main_arg1) := by
    after_reads_simp
  have h8 := Reads.read_early (ops := hostOps0) 19 late rfl (r := main_call0_v8) (by decide) (fun b => m (c, b))
  have h12 := Reads.read_early (ops := hostOps0) 19 late rfl (r := main_call0_v12) (by decide) (fun b => m (c, b))
  rw [ha, h8, h12]
  generalize StableHlo.after hostOps0 (fun b => m (c, b)) (Proc.devRef .tc main_call0_v8) = A
  generalize StableHlo.after hostOps0 (fun b => m (c, b)) (Proc.devRef .tc main_call0_v12) = B
  simp -implicitDefEqProofs only [StableHlo.TRef.toBuf, StableHlo.TRef.ofBuf, cast_eq]
/-- The taps' weights are the changed weights, transposed and laid out tap by tap. -/
theorem wq_eq (c : Dev nD) : wq m c
    = shapeCast S27x96x96 (transpose S3x3x3x96x96 [2, 3, 4, 1, 0] (weff m c) transposes_S96x96x3x3x3_S3x3x3x96x96_2_3_4_1_0) shapeCasts_S3x3x3x96x96_S27x96x96 := by
  unfold wq weff V
  refine (StableHlo.after_last_write (i := 21) late.tail.tail.tail rfl rfl (by decide) _).trans ((StableHlo.reshape_result' _ _ _ _ _).trans ?_)
  have h14 : StableHlo.upto hostOps0 (fun b => m (c, b)) 21 (Proc.devRef .tc main_call0_v14) = _ :=
    (StableHlo.upto_last_write (n := 21) (i := 20) [] rfl rfl (by decide) _).trans (StableHlo.unary_result' _ _ _ _)
  have h13 := Reads.read_early (ops := hostOps0) 20 late.tail rfl (r := main_call0_v13) (by decide) (fun b => m (c, b))
  rw [h13] at h14
  rw [h14]
  generalize StableHlo.after hostOps0 (fun b => m (c, b)) (Proc.devRef .tc main_call0_v13) = A
  rfl
/-- The scatter's coordinates are the three one-entry arrays, one after another. -/
theorem ixv_eq (c : Dev nD) : ixv m c = concatenate S3 0 [⟨S1, (V m c main_call0_v9 : IVec S1 32)⟩,
    ⟨S1, (V m c main_call0_v10 : IVec S1 32)⟩, ⟨S1, (V m c main_call0_v11 : IVec S1 32)⟩] concatenates_S1_S1_S1_S3_d0 := by
  unfold ixv V
  refine (StableHlo.after_last_write (i := 18) late rfl rfl (by decide) _).trans ?_
  rw [← Reads.read_early (ops := hostOps0) 18 (main_call0_v12 :: late) rfl (r := main_call0_v9) (by decide),
    ← Reads.read_early (ops := hostOps0) 18 (main_call0_v12 :: late) rfl (r := main_call0_v10) (by decide),
    ← Reads.read_early (ops := hostOps0) 18 (main_call0_v12 :: late) rfl (r := main_call0_v11) (by decide)]
  rfl
/-- Each of the scatter's coordinates is one. -/
theorem ixv_at (c : Dev nD) (i : S3.Idx) : ixv m c i = 1#32 := by
  obtain ⟨j, rfl⟩ : ∃ j : Fin 3, i = ix1 j := ⟨i 0, ValueIdx.eq_ix1 i⟩
  rw [ixv_eq]
  have h9 : (V m c main_call0_v9 : IVec S1 32) = fun _ => 1#32 := by
    unfold V
    after_reads_simp
    rfl
  have h10 : (V m c main_call0_v10 : IVec S1 32) = fun _ => 1#32 := by
    unfold V
    after_reads_simp
    rfl
  have h11 : (V m c main_call0_v11 : IVec S1 32) = fun _ => 1#32 := by
    unfold V
    after_reads_simp
    rfl
  rw [h9, h10, h11]
  fin_cases j <;> rfl
/-- The taps' weights, read at an entry. -/
theorem wq_read (c : Dev nD) (t : Fin 27) (k e : Fin 96) :
    wq m c (ix3 t k e) = weff m c (ix5 e k ⟨t / 9, by omega⟩ ⟨t % 9 / 3, by omega⟩ ⟨t % 3, by omega⟩) := by
  rw [wq_eq]
  generalize weff m c = W
  pointwise
  exact congrArg W (congrArg (fun q : Fin 3 => ix5 e k ⟨t / 9, by omega⟩ q ⟨t % 3, by omega⟩) (Fin.ext (by show t.val / 3 % 3 = t.val % 9 / 3; omega)))
/-- The added amount: minus 0.7 times the sum of the first and the last plane of weights. -/
theorem kdn_at (c : Dev nD) (k e : Fin 96) :
    kdn m c (ix2 e k) = Ideal.ofBits .f32 0xBF333333#32 *
      ((∑ y : Fin 3, ∑ x : Fin 3, a1 m c (ix5 e k 0 y x)) + ∑ y : Fin 3, ∑ x : Fin 3, a1 m c (ix5 e k 2 y x)) := by
  unfold kdn V
  after_reads_at

/-- The changed weights, read at an entry. -/
theorem weff_at (c : Dev nD) (e k : Fin 96) (p q r : Fin 3) :
    weff m c (ix5 e k p q r) = if p = 1 ∧ q = 1 ∧ r = 1 then a1 m c (ix5 e k p q r) + kdn m c (ix2 e k) else a1 m c (ix5 e k p q r) := by
  rw [weff_eq]
  exact centre_scatter _ _ _ (ixv_at m c) _ e k p q r

/-- The integer zero converts to zero. -/
theorem zero_word : (FloatOps.sitofp (F := Ideal) FTy.f32 (0#32 : BitVec 32) : EReal) = 0 := by
  show (((0#32 : BitVec 32).toInt : ℝ) : EReal) = 0
  norm_num

/-- The padded images, read at an entry: the image inside, zero outside. -/
theorem xp_at (c : Dev nD) (n : Fin 8) (z : Fin 10) (y x : Fin 30) (k : Fin 96) :
    xp m c (ix5 n z y x k) = if h : (1 ≤ z.val ∧ z.val - 1 < 8) ∧ (1 ≤ y.val ∧ y.val - 1 < 28) ∧ 1 ≤ x.val ∧ x.val - 1 < 28 then
      a0 m c (ix6 ⟨n.val / 2, by omega⟩ ⟨n.val % 2, by omega⟩ k ⟨z.val - 1, by omega⟩ ⟨y.val - 1, by omega⟩ ⟨x.val - 1, by omega⟩) else 0 := by
  unfold xp V
  after_reads_at
  exact dite_congr rfl (fun _ => rfl) fun _ => zero_word

/-- The pointwise weights, read at an entry. -/
theorem wk_at (c : Dev nD) (k e : Fin 96) : wk m c (ix2 k e) = a2 m c (ix5 e k 0 0 0) := by
  unfold wk V
  after_reads_at
end Cert.KernelIdeal.First
-- ==== Proof.RefConv.lean ====
module

public import proofs.«01_k».proof.Proof.Gen.ReferenceIdeal.Run
public import Idealize.ShloMosaic.Lib.Pointwise
public import Idealize.ShloMosaic.PureOps.Ideal
public import Idealize.ShloMosaic.Lib.Claim

@[expose] public section

open Idealize Idealize.ShloMosaic Idealize.ShloMosaic.TcCoe Idealize.SL.Sem
namespace Cert.ReferenceIdeal.Conv
open Cert.ReferenceIdeal Cert.ReferenceIdeal.Gen Cert.ReferenceIdeal.Value
attribute [local instance] Cert.ReferenceIdeal.Gen.facts₀
set_option maxRecDepth 16384
/-- What tap `t` contributes to the reference's convolution, before its bounds are looked at. -/
noncomputable def cv (P : Vec Ideal S8x96x10x30x30 .f32) (Wt : Vec Ideal S96x96x3x3x3 .f32) (n : Fin 8) (o : Fin 96) (z : Fin 8) (y x : Fin 28) (t : Fin 27) : EReal :=
  ∑ k : Fin 96, P (ix5 n k ⟨z + t / 9, by omega⟩ ⟨y + t % 9 / 3, by omega⟩ ⟨x + t % 3, by omega⟩)
    * Wt (ix5 o k ⟨t / 9, by omega⟩ ⟨t % 9 / 3, by omega⟩ ⟨t % 3, by omega⟩)

/-- A tap's contribution, at indices known by their values. -/
theorem cv_read (P : Vec Ideal S8x96x10x30x30 .f32) (Wt : Vec Ideal S96x96x3x3x3 .f32) (n : Fin 8) (o : Fin 96) (z : Fin 8) (y x : Fin 28) (t : Fin 27)
    (z' : Fin 10) (y' x' : Fin 30) (a b d : Fin 3) (hz : z'.val = z + t / 9) (hy : y'.val = y + t % 9 / 3) (hx : x'.val = x + t % 3)
    (ha : a.val = t / 9) (hb : b.val = t % 9 / 3) (hd : d.val = t % 3) :
    ∑ k : Fin 96, P (ix5 n k z' y' x') * Wt (ix5 o k a b d) = cv P Wt n o z y x t := by
  obtain ⟨z', _⟩ := z'
  obtain ⟨y', _⟩ := y'
  obtain ⟨x', _⟩ := x'
  obtain ⟨a, _⟩ := a
  obtain ⟨b, _⟩ := b
  obtain ⟨d, _⟩ := d
  dsimp only at hz hy hx ha hb hd
  subst hz hy hx ha hb hd
  rfl

variable (V0 : Valuation τ sig (Elt Ideal))
/-- The reference's padded images. -/
noncomputable abbrev pad0 : Vec Ideal S8x96x10x30x30 .f32 := res_main_v1 V0
/-- The reference's weights. -/
noncomputable abbrev wgt0 : Vec Ideal S96x96x3x3x3 .f32 := V0 (Proc.devRef .tc main_arg1)
/-- The reference's sum of the first nine taps. -/
noncomputable abbrev s56 : Vec Ideal S8x96x8x28x28 .f32 := res_main_v56 V0
/-- The reference's sum of the first eighteen taps. -/
noncomputable abbrev s110 : Vec Ideal S8x96x8x28x28 .f32 := res_main_v110 V0
/-- The reference's sum of all 27 taps. -/
noncomputable abbrev s164 : Vec Ideal S8x96x8x28x28 .f32 := res_main_v164 V0
/-- A tap's contribution, of the reference's own arrays. -/
noncomputable abbrev cvs (n : Fin 8) (o : Fin 96) (z : Fin 8) (y x : Fin 28) (t : Fin 27) : EReal := cv (pad0 V0) (wgt0 V0) n o z y x t
/-- The first nine taps, summed one after another. -/
theorem v56_at (n : Fin 8) (o : Fin 96) (z : Fin 8) (y x : Fin 28) : s56 V0 (ix5 n o z y x)
    = cvs V0 n o z y x 0 + cvs V0 n o z y x 1 + cvs V0 n o z y x 2 + cvs V0 n o z y x 3 + cvs V0 n o z y x 4 + cvs V0 n o z y x 5
      + cvs V0 n o z y x 6 + cvs V0 n o z y x 7 + cvs V0 n o z y x 8 := by
  unfold s56 res_main_v56
  pointwise
  iterate 8 refine congrArg₂ _ ?_ (cv_read (pad0 V0) (wgt0 V0) n o z y x _ _ _ _ _ _ _ ?_ ?_ ?_ ?_ ?_ ?_)
  refine (cv_read (pad0 V0) (wgt0 V0) n o z y x _ _ _ _ _ _ _ ?_ ?_ ?_ ?_ ?_ ?_)
  all_goals first | rfl | exact Nat.add_comm _ _
/-- The next nine taps are added one after another. -/
theorem v110_at (n : Fin 8) (o : Fin 96) (z : Fin 8) (y x : Fin 28) : s110 V0 (ix5 n o z y x)
    = s56 V0 (ix5 n o z y x) + cvs V0 n o z y x 9 + cvs V0 n o z y x 10 + cvs V0 n o z y x 11 + cvs V0 n o z y x 12
      + cvs V0 n o z y x 13 + cvs V0 n o z y x 14 + cvs V0 n o z y x 15 + cvs V0 n o z y x 16 + cvs V0 n o z y x 17 := by
  unfold s110 res_main_v110
  pointwise
  iterate 9 refine congrArg₂ _ ?_ (cv_read (pad0 V0) (wgt0 V0) n o z y x _ _ _ _ _ _ _ ?_ ?_ ?_ ?_ ?_ ?_)
  all_goals first | rfl | exact Nat.add_comm _ _
/-- The last nine taps are added one after another. -/
theorem v164_at (n : Fin 8) (o : Fin 96) (z : Fin 8) (y x : Fin 28) : s164 V0 (ix5 n o z y x)
    = s110 V0 (ix5 n o z y x) + cvs V0 n o z y x 18 + cvs V0 n o z y x 19 + cvs V0 n o z y x 20 + cvs V0 n o z y x 21
      + cvs V0 n o z y x 22 + cvs V0 n o z y x 23 + cvs V0 n o z y x 24 + cvs V0 n o z y x 25 + cvs V0 n o z y x 26 := by
  unfold s164 res_main_v164
  pointwise
  iterate 9 refine congrArg₂ _ ?_ (cv_read (pad0 V0) (wgt0 V0) n o z y x _ _ _ _ _ _ _ ?_ ?_ ?_ ?_ ?_ ?_)
  all_goals first | rfl | exact Nat.add_comm _ _
/-- The reference's convolution is the sum over its taps. -/
theorem conv_at (n : Fin 8) (o : Fin 96) (z : Fin 8) (y x : Fin 28) : s164 V0 (ix5 n o z y x) = ∑ t : Fin 27, cvs V0 n o z y x t := by
  rw [v164_at, v110_at, v56_at]
  simp only [Fin.sum_univ_castSucc, Finset.univ_eq_empty, Finset.sum_empty, zero_add]
  rfl
/-- The sum of the first and the last plane of the weights. -/
noncomputable def kdr (Wt : Vec Ideal S96x96x3x3x3 .f32) (o k : Fin 96) : EReal :=
  (∑ y : Fin 3, ∑ x : Fin 3, Wt (ix5 o k 0 y x)) + ∑ y : Fin 3, ∑ x : Fin 3, Wt (ix5 o k 2 y x)
/-- The reference's images, time and batch together. -/
noncomputable abbrev x0 : Vec Ideal S8x96x8x28x28 .f32 := res_main_v0 V0

/-- The reference's pointwise weights. -/
noncomputable abbrev w2 : Vec Ideal S96x96x1x1x1 .f32 := V0 (Proc.devRef .tc main_arg2)
/-- The reference's q. -/
noncomputable abbrev q0 : Vec Ideal S8x96x8x28x28 .f32 := res_main_v181 V0
/-- The reference's k. -/
noncomputable abbrev k0 : Vec Ideal S8x96x8x28x28 .f32 := res_main_v187 V0

/-- Without padding every place is inside. -/
theorem inside (n : Fin 8) (k : Fin 96) (z : Fin 8) (y x : Fin 28) (a : Fin 5) :
    (![0, 0, 0, 0, 0] : Fin 5 → ℕ) a ≤ (ix5 n k z y x a).val ∧ ((ix5 n k z y x a).val - (![0, 0, 0, 0, 0] : Fin 5 → ℕ) a) % ((![0, 0, 0, 0, 0] : Fin 5 → ℕ) a + 1) = 0
      ∧ ((ix5 n k z y x a).val - (![0, 0, 0, 0, 0] : Fin 5 → ℕ) a) / ((![0, 0, 0, 0, 0] : Fin 5 → ℕ) a + 1) < S8x96x8x28x28.size a := by
  have hp : (![0, 0, 0, 0, 0] : Fin 5 → ℕ) a = 0 := by fin_cases a <;> rfl
  rw [hp, Nat.sub_zero, Nat.zero_add, Nat.mod_one, Nat.div_one]
  exact ⟨Nat.zero_le _, rfl, (ix5 n k z y x a).isLt⟩
/-- The reference's q: the convolution minus 0.7 times the second convolution. -/
theorem v181_at (n : Fin 8) (o : Fin 96) (z : Fin 8) (y x : Fin 28) : q0 V0 (ix5 n o z y x)
    = (∑ t : Fin 27, cvs V0 n o z y x t) - Ideal.ofBits .f32 0x3F333333#32 * ∑ k : Fin 96, x0 V0 (ix5 n k z y x) * kdr (wgt0 V0) o k := by
  rw [← conv_at]
  unfold q0 res_main_v181
  pointwise
  refine congrArg (s164 V0 (ix5 n o z y x) - ·) (congrArg (Ideal.ofBits .f32 0x3F333333#32 * ·) (Finset.sum_congr rfl fun k _ => congrArg (· * kdr (wgt0 V0) o k) (dif_pos ?_)))
  exact inside n k z y x
/-- The reference's k: the pointwise convolution. -/
theorem v187_at (n : Fin 8) (o : Fin 96) (z : Fin 8) (y x : Fin 28) : k0 V0 (ix5 n o z y x)
    = ∑ k : Fin 96, x0 V0 (ix5 n k z y x) * w2 V0 (ix5 o k 0 0 0) := by
  unfold k0 res_main_v187
  pointwise
  exact Finset.sum_congr rfl fun k _ => congrArg (· * w2 V0 (ix5 o k 0 0 0)) (dif_pos (inside n k z y x))
/-- The reference's images, as it is given them. -/
noncomputable abbrev arg0 : Vec Ideal S4x2x96x8x28x28 .f32 := V0 (Proc.devRef .tc main_arg0)
/-- The reference's images, read at an entry. -/
theorem x0_at (n : Fin 8) (k : Fin 96) (z : Fin 8) (y x : Fin 28)  : x0 V0 (ix5 n k z y x)
    = arg0 V0 (ix6 ⟨n.val / 2, by omega⟩ ⟨n.val % 2, by omega⟩ k z y x) := by
  unfold x0 res_main_v0
  pointwise
/-- The integer zero converts to zero. -/
theorem zero_word : (FloatOps.sitofp (F := Ideal) FTy.f32 (0#32 : BitVec 32) : EReal) = 0 := by
  show (((0#32 : BitVec 32).toInt : ℝ) : EReal) = 0
  norm_num

/-- The padding of an array, read at an entry. -/
theorem pad1_at (X : Vec Ideal S8x96x8x28x28 .f32) (n : Fin 8) (k : Fin 96) (z : Fin 10) (y x : Fin 30) :
   pad S8x96x10x30x30 ![0, 0, 1, 1, 1] ![0, 0, 1, 1, 1] ![0, 0, 0, 0, 0] X (sitofp (F := Ideal) .f32 (constantI S_ 32 0#32)) pads_S8x96x8x28x28_S8x96x10x30x30_000_000_110_110_110 h_S_ (ix5 n k z y x)
    = if h : (1 ≤ z.val ∧ z.val - 1 < 8) ∧ (1 ≤ y.val ∧ y.val - 1 < 28) ∧ 1 ≤ x.val ∧ x.val - 1 < 28 then
      X (ix5 n k ⟨z.val - 1, by omega⟩ ⟨y.val - 1, by omega⟩ ⟨x.val - 1, by omega⟩) else (0 : EReal) := by
  pointwise
  exact dite_congr rfl (fun _ => rfl) fun _ => zero_word
/-- The reference's padded images, read at an entry: the image inside, zero outside. -/
theorem pad0_at (n : Fin 8) (k : Fin 96) (z : Fin 10) (y x : Fin 30)  : pad0 V0 (ix5 n k z y x)
    = if h : (1 ≤ z.val ∧ z.val - 1 < 8) ∧ (1 ≤ y.val ∧ y.val - 1 < 28) ∧ 1 ≤ x.val ∧ x.val - 1 < 28 then
      arg0 V0 (ix6 ⟨n.val / 2, by omega⟩ ⟨n.val % 2, by omega⟩ k ⟨z.val - 1, by omega⟩ ⟨y.val - 1, by omega⟩ ⟨x.val - 1, by omega⟩) else (0 : EReal) :=
  (pad1_at (x0 V0) n k z y x).trans (dite_congr rfl (fun _ => x0_at V0 _ _ _ _ _) fun _ => rfl)
end Cert.ReferenceIdeal.Conv
-- ==== Proof.RefOuts.lean ====
module

public import proofs.«01_k».proof.Proof.FirstArrays
public import proofs.«01_k».proof.Proof.RefConv

@[expose] public section

open Idealize Idealize.ShloMosaic Idealize.ShloMosaic.TcCoe Idealize.SL.Sem
namespace Cert.ReferenceIdeal.Conv
open Cert.ReferenceIdeal Cert.ReferenceIdeal.Gen Cert.ReferenceIdeal.Value Cert.KernelIdeal.First
attribute [local instance] Cert.ReferenceIdeal.Gen.facts₀
set_option maxRecDepth 16384

/-- An array with its channel axis second, as a function of image, depth, place and channel. -/
def chan (T : Vec Ideal S8x96x8x28x28 .f32) (n d : Fin 8) (y x : Fin 28) (e : Fin 96) : EReal := T (ix5 n e d y x)

/-- The reference's cut into windows, read at an entry. -/
theorem wins_at (T : Vec Ideal S8x96x8x28x28 .f32) (t : Fin 4) (b : Fin 2) (w : Fin 8) (l : Fin 4) (p : Fin 196) (e : Fin 96) :
    (shapeCast S4x2x8x4x196x96 (transpose S4x2x2x2x2x4x14x14x96 [0, 1, 3, 5, 7, 4, 6, 8, 2] (shapeCast S4x2x96x2x4x2x14x2x14 T shapeCasts_S8x96x8x28x28_S4x2x96x2x4x2x14x2x14)
      transposes_S4x2x96x2x4x2x14x2x14_S4x2x2x2x2x4x14x14x96_0_1_3_5_7_4_6_8_2) shapeCasts_S4x2x2x2x2x4x14x14x96_S4x2x8x4x196x96 : Vec Ideal S4x2x8x4x196x96 .f32) (ix6 t b w l p e)
    = chan T (img t b) (dep w l) (wrow (inPlane w) p) (wcol (inPlane w) p) e := by
  unfold chan
  pointwise
  refine congrArg T (congr (congrArg (ix5 _ e _) (Fin.ext ?_)) (Fin.ext ?_))
  · show w.val / 2 % 2 * 14 + p.val / 14 = w.val % 4 / 2 * 14 + p.val / 14
    omega
  · show w.val % 2 * 14 + p.val % 14 = w.val % 4 % 2 * 14 + p.val % 14
    omega
/-- The reference's sum over a plane, read at an entry. -/
theorem plane_at (T : Vec Ideal S8x96x8x28x28 .f32) (n d : Fin 8) (u : Fin 1) (e : Fin 96) :
    (broadcastInDim S8x8x1x96 ![0, 1, 3] bcast_S8x8x96_S8x8x1x96_0_1_3 (transpose S8x8x96 [0, 2, 1] (Host.reduceAdd (F := Ideal) (φ := .f32) (shapeCast _ T shapeCasts_S8x96x8x28x28_S8x96x8x784) (constant S_ .f32 0x00000000#32) reducesTo_S8x96x8x784_S8x96x8_d3 h_S_) transposes_S8x96x8_S8x8x96_0_2_1) : FVec Ideal S8x8x1x96 .f32)
     (ix4 n d u e) = planeSum (chan T n d) e := by
  unfold planeSum chan
  pointwise
/-- Six rows set beside each other, read at an entry. -/
theorem cat6 (p : Fin 6 → Vec Ideal S8x8x1x96 .f32) (n d : Fin 8) (s : Fin 6) (e : Fin 96) :
    concatenate S8x8x6x96 2 [⟨S8x8x1x96, p 0⟩, ⟨S8x8x1x96, p 1⟩, ⟨S8x8x1x96, p 2⟩, ⟨S8x8x1x96, p 3⟩, ⟨S8x8x1x96, p 4⟩, ⟨S8x8x1x96, p 5⟩] concatenates_S8x8x1x96_S8x8x1x96_S8x8x1x96_S8x8x1x96_S8x8x1x96_S8x8x1x96_S8x8x6x96_d2 (ix4 n d s e)
    = p s (ix4 n d 0 e) := by
  fin_cases s <;> pointwise
/-- Two groups of four rows set beside each other, read at an entry. -/
theorem cat2 (p q : Vec Ideal S8x8x4x96 .f32) (n d : Fin 8) (s : Fin 8) (e : Fin 96) :
    concatenate S8x8x8x96 2 [⟨S8x8x4x96, p⟩, ⟨S8x8x4x96, q⟩] concatenates_S8x8x4x96_S8x8x4x96_S8x8x8x96_d2 (ix4 n d s e)
    = if h : s.val < 4 then p (ix4 n d ⟨s, h⟩ e) else q (ix4 n d ⟨s.val - 4, by omega⟩ e) := by
  pointwise
/-- The sum over a window's positions, as a finite sum. -/
theorem rowsOf (A : Vec Ideal S4x2x8x4x196x96 .f32) (a : Fin 4) (b : Fin 2) (w : Fin 8) (d : Fin 4) (e : Fin 96) :
    Ideal.hostReduceAdd reducesTo_S4x2x8x4x196x96_S4x2x8x4x96_d4 A 0 (ix5 a b w d e) = ∑ p : Fin 196, A (ix6 a b w d p e) := by
  unfold Ideal.hostReduceAdd
  rw [zero_add]
  refine Finset.sum_filter_eq_sum_of_fiber _ (fun p : Fin 196 => ix6 a b w d p e) (fun _ _ e => congrFun e 4) (fun i => ?_) A
  constructor
  · intro h
    refine ⟨i 4, funext fun x => ?_⟩
    have hx : ∀ y : Fin 5, (ix5 a b w d e y).val = _ := fun y => congrArg Fin.val (congrFun h y).symm
    fin_cases x
    · exact Fin.ext (hx 0)
    · exact Fin.ext (hx 1)
    · exact Fin.ext (hx 2)
    · exact Fin.ext (hx 3)
    · rfl
    · exact Fin.ext (hx 4)
  · rintro ⟨k, rfl⟩
    funext x
    fin_cases x <;> rfl
/-- The reference's window sums, read at an entry. -/
theorem wsum_at (A : Vec Ideal S4x2x8x4x196x96 .f32) (n d : Fin 8) (s : Fin 4) (e : Fin 96) :
   (shapeCast S8x8x4x96 (transpose S4x2x2x4x4x96 [0, 1, 2, 4, 3, 5] (shapeCast S4x2x2x4x4x96 (Host.reduceAdd (F := Ideal) (φ := .f32) A (constant S_ .f32 0x00000000#32) reducesTo_S4x2x8x4x196x96_S4x2x8x4x96_d4 h_S_) shapeCasts_S4x2x8x4x96_S4x2x2x4x4x96) transposes_S4x2x2x4x4x96_S4x2x2x4x4x96_0_1_2_4_3_5) shapeCasts_S4x2x2x4x4x96_S8x8x4x96 : FVec Ideal S8x8x4x96 .f32) (ix4 n d s e)
    = ∑ p : Fin 196, A (ix6 ⟨n / 2, by omega⟩ ⟨n % 2, by omega⟩ ⟨d / 4 * 4 + s, by omega⟩ ⟨d % 4, by omega⟩ p e) := by
  pointwise
  exact rowsOf A _ _ _ _ e

/-- The reference's cut into windows. -/
noncomputable abbrev winsOf (T : Vec Ideal S8x96x8x28x28 .f32) : Vec Ideal S4x2x8x4x196x96 .f32 :=
  shapeCast S4x2x8x4x196x96 (transpose S4x2x2x2x2x4x14x14x96 [0, 1, 3, 5, 7, 4, 6, 8, 2] (shapeCast S4x2x96x2x4x2x14x2x14 T shapeCasts_S8x96x8x28x28_S4x2x96x2x4x2x14x2x14)
      transposes_S4x2x96x2x4x2x14x2x14_S4x2x2x2x2x4x14x14x96_0_1_3_5_7_4_6_8_2) shapeCasts_S4x2x2x2x2x4x14x14x96_S4x2x8x4x196x96

/-- The reference's sums over planes. -/
noncomputable abbrev planeOf (T : Vec Ideal S8x96x8x28x28 .f32) : Vec Ideal S8x8x1x96 .f32 :=
  (broadcastInDim S8x8x1x96 ![0, 1, 3] bcast_S8x8x96_S8x8x1x96_0_1_3 (transpose S8x8x96 [0, 2, 1] (Host.reduceAdd (F := Ideal) (φ := .f32) (shapeCast _ T shapeCasts_S8x96x8x28x28_S8x96x8x784) (constant S_ .f32 0x00000000#32) reducesTo_S8x96x8x784_S8x96x8_d3 h_S_) transposes_S8x96x8_S8x8x96_0_2_1) : FVec Ideal S8x8x1x96 .f32)

/-- The reference's sums over windows, depth by depth. -/
noncomputable abbrev wsumOf (A : Vec Ideal S4x2x8x4x196x96 .f32) : Vec Ideal S8x8x4x96 .f32 :=
   (shapeCast S8x8x4x96 (transpose S4x2x2x4x4x96 [0, 1, 2, 4, 3, 5] (shapeCast S4x2x2x4x4x96 (Host.reduceAdd (F := Ideal) (φ := .f32) A (constant S_ .f32 0x00000000#32) reducesTo_S4x2x8x4x196x96_S4x2x8x4x96_d4 h_S_) shapeCasts_S4x2x8x4x96_S4x2x2x4x4x96) transposes_S4x2x2x4x4x96_S4x2x2x4x4x96_0_1_2_4_3_5) shapeCasts_S4x2x2x4x4x96_S8x8x4x96 : FVec Ideal S8x8x4x96 .f32)

/-- The reference's windows are the windowed array of its channels. -/
theorem wins_eq (T : Vec Ideal S8x96x8x28x28 .f32) : winsOf T = winArr (chan T) := by
  funext j
  obtain ⟨t, b, w, l, p, e, rfl⟩ : ∃ (t : Fin 4) (b : Fin 2) (w : Fin 8) (l : Fin 4) (p : Fin 196) (e : Fin 96), j = ix6 t b w l p e :=
    ⟨j 0, j 1, j 2, j 3, j 4, j 5, ValueIdx.eq_ix6 j⟩
  exact wins_at T t b w l p e

/-- Squaring an array squares its entries. -/
theorem sq (T : Vec Ideal S8x96x8x28x28 .f32) (n d : Fin 8) :
    chan (mulf (F := Ideal) (φ := .f32) T T) n d = fun y x e => chan T n d y x e * chan T n d y x e := rfl

/-- The reference's plane sums are the six sums of q, k and x. -/
theorem st_eq (Q K X : Vec Ideal S8x96x8x28x28 .f32) :
    concatenate S8x8x6x96 2 [⟨S8x8x1x96, planeOf Q⟩, ⟨S8x8x1x96, planeOf (mulf (F := Ideal) (φ := .f32) Q Q)⟩, ⟨S8x8x1x96, planeOf K⟩, ⟨S8x8x1x96, planeOf (mulf (F := Ideal) (φ := .f32) K K)⟩,
      ⟨S8x8x1x96, planeOf X⟩, ⟨S8x8x1x96, planeOf (mulf (F := Ideal) (φ := .f32) X X)⟩] concatenates_S8x8x1x96_S8x8x1x96_S8x8x1x96_S8x8x1x96_S8x8x1x96_S8x8x1x96_S8x8x6x96_d2
    = rowArr6 (chan Q) (chan K) (chan X) := by
  funext j
  obtain ⟨n, d, s, e, rfl⟩ : ∃ (n d : Fin 8) (s : Fin 6) (e : Fin 96), j = ix4 n d s e := ⟨j 0, j 1, j 2, j 3, ValueIdx.eq_ix4 j⟩
  refine (cat6 ![planeOf Q, planeOf (mulf (F := Ideal) (φ := .f32) Q Q), planeOf K, planeOf (mulf (F := Ideal) (φ := .f32) K K), planeOf X, planeOf (mulf (F := Ideal) (φ := .f32) X X)] n d s e).trans ?_
  show _ = sums6 (chan Q n d) (chan K n d) (chan X n d) s e
  fin_cases s
  · exact plane_at Q n d 0 e
  · exact plane_at (mulf (F := Ideal) (φ := .f32) Q Q) n d 0 e
  · exact plane_at K n d 0 e
  · exact plane_at (mulf (F := Ideal) (φ := .f32) K K) n d 0 e
  · exact plane_at X n d 0 e
  · exact plane_at (mulf (F := Ideal) (φ := .f32) X X) n d 0 e

/-- The reference's window sums of a windowed array. -/
theorem wsum_win (f : Fin 8 → Fin 8 → Fin 28 → Fin 28 → Fin 96 → EReal) (n d : Fin 8) (s : Fin 4) (e : Fin 96) :
    wsumOf (winArr f) (ix4 n d s e) = winSum (f n d) s e := by
  refine (wsum_at (winArr f) n d s e).trans (Finset.sum_congr rfl fun p _ => ?_)
  exact winArr_at f n d s p e _ rfl rfl rfl rfl rfl rfl

/-- The reference's window sums are the eight sums of q and k. -/
theorem reg_eq (f g : Fin 8 → Fin 8 → Fin 28 → Fin 28 → Fin 96 → EReal) :
    concatenate S8x8x8x96 2 [⟨S8x8x4x96, wsumOf (winArr f)⟩, ⟨S8x8x4x96, wsumOf (winArr g)⟩] concatenates_S8x8x4x96_S8x8x4x96_S8x8x8x96_d2 = rowArr8 f g := by
  funext j
  obtain ⟨n, d, s, e, rfl⟩ : ∃ (n d : Fin 8) (s : Fin 8) (e : Fin 96), j = ix4 n d s e := ⟨j 0, j 1, j 2, j 3, ValueIdx.eq_ix4 j⟩
  refine (cat2 _ _ n d s e).trans ?_
  exact dite_congr rfl (fun h => wsum_win f n d ⟨s, h⟩ e) fun h => wsum_win g n d ⟨s.val - 4, by omega⟩ e
end Cert.ReferenceIdeal.Conv
-- ==== Proof.Finite.lean ====
module

public import Idealize.ShloMosaic.Lib.Claim
public import Idealize.ShloMosaic.PureOps.Ideal
public import Idealize.ShloMosaic.Lib.ReduceAll

@[expose] public section

open Idealize Idealize.ShloMosaic
namespace Cert.Finite

/-- The test "the absolute value is below infinity" holds only of a real number. -/
theorem word_finite (x : EReal) (h : FloatOps.cmpf (F := Ideal) (φ := .f32) .olt (FloatOps.hostAbsf (F := Ideal) (φ := .f32) x) (FloatOps.ofBits (F := Ideal) .f32 0x7F800000#32) = 1#1) :
    x ≠ ⊤ ∧ x ≠ ⊥ := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  constructor
  · rintro rfl
    simp [Ideal.cmp] at h
  · rintro rfl
    simp [Ideal.cmp] at h

/-- A proposition whose truth value is the word one holds. -/
theorem of_bit {p : Prop} [Decidable p] (h : BitVec.ofBool (decide p) = 1#1) : p := by
  by_contra hn
  rw [decide_eq_false hn] at h
  exact absurd h (by decide)

/-- What is neither infinity is a real number. -/
theorem real_of {x : EReal} (h : x ≠ ⊤ ∧ x ≠ ⊥) : ∃ r : ℝ, x = r := ⟨_, (EReal.coe_toReal h.1 h.2).symm⟩

/-- A sum of real numbers, taken among the extended reals, is their sum. -/
theorem coe_sum' {n : ℕ} (f : Fin n → ℝ) : (∑ k, (f k : EReal)) = ((∑ k, f k : ℝ) : EReal) := by
  induction n with
  | zero => simp
  | succ n ih => rw [Fin.sum_univ_succ, Fin.sum_univ_succ, EReal.coe_add, ih]

/-- A sum whose terms are real numbers is a real number. -/
theorem sum_real {n : ℕ} (f : Fin n → EReal) (hf : ∀ k, ∃ r : ℝ, f k = r) : ∃ r : ℝ, ∑ k, f k = r := by
  choose g hg using hf
  exact ⟨∑ k, g k, by rw [← coe_sum']; exact Finset.sum_congr rfl fun k _ => hg k⟩

end Cert.Finite
-- ==== Proof.Centre.lean ====
module

public import proofs.«01_k».proof.Proof.FirstEntry
public import proofs.«01_k».proof.Proof.RefOuts
public import proofs.«01_k».proof.Proof.Finite
public import proofs.«01_k».proof.Proof.Gen.Pre_finite
public import Idealize.ShloMosaic.Lib.ReduceAll

@[expose] public section

open Idealize Idealize.ShloMosaic Idealize.ShloMosaic.TcCoe Idealize.SL.Sem
open Cert.Finite
namespace Cert.Centre
set_option maxRecDepth 16384

section
open Cert.Pre_finite
attribute [local instance] Cert.Pre_finite.Gen.facts
/-- What the precondition says: every entry of the images and of the 27 taps' weights is finite. -/
theorem args_finite (A : FVec Ideal S4x2x96x8x28x28 .f32) (B : FVec Ideal S96x96x3x3x3 .f32) (C : FVec Ideal S96x96x1x1x1 .f32)
    (h : Cert.Pre_finite.fn (F := Ideal) A B C = fun _ => 1#1) :
    (∀ i, A i ≠ ⊤ ∧ A i ≠ ⊥) ∧ ∀ i, B i ≠ ⊤ ∧ B i ≠ ⊥ := by
  have h0 := congrFun h (ix0)
  dsimp only [Cert.Pre_finite.fn] at h0
  obtain ⟨hA, hB⟩ := IntOp.andi_eq_one.1 h0
  have : Subsingleton S_.Idx := ⟨fun a b => funext fun x => x.elim0⟩
  exact ⟨fun i => word_finite _ (Host.reduce_andi_all _ _ _ _ _ hA i), fun i => word_finite _ (Host.reduce_andi_all _ _ _ _ _ hB i)⟩
end

/-- The words of 0.7 and of minus 0.7 are a real number and its negative. -/
theorem kappa : ∃ r : ℝ, Ideal.ofBits .f32 0x3F333333#32 = r ∧ Ideal.ofBits .f32 0xBF333333#32 = -(r : EReal) := by
  simp [Ideal.ofBits, Ideal.ieee]
  exact ⟨11744051 * (2 ^ 24)⁻¹, (EReal.coe_mul _ _).symm⟩

/-- Moving the centre tap's added weight out of the product, all entries finite. -/
theorem centre (x w d : Fin 96 → EReal) (hx : ∀ k, ∃ r : ℝ, x k = r) (hw : ∀ k, ∃ r : ℝ, w k = r) (hd : ∀ k, ∃ r : ℝ, d k = r) :
    ∑ k, x k * (w k + Ideal.ofBits .f32 0xBF333333#32 * d k) = (∑ k, x k * w k) + -(Ideal.ofBits .f32 0x3F333333#32 * ∑ k, x k * d k) := by
  obtain ⟨r, h1, h2⟩ := kappa
  rw [h1, h2]
  choose x' hx using hx
  choose w' hw using hw
  choose d' hd using hd
  simp only [hx, hw, hd, ← EReal.coe_neg, ← EReal.coe_mul, ← EReal.coe_add, coe_sum']
  congr 1
  simp only [mul_add, Finset.sum_add_distrib, Finset.mul_sum]
  rw [← Finset.sum_neg_distrib]
  congr 1
  exact Finset.sum_congr rfl fun k _ => by ring

open Cert.KernelIdeal.First Cert.ReferenceIdeal.Conv

variable (m : (ℓ : Loc Cert.KernelIdeal.nD Cert.KernelIdeal.τ Cert.KernelIdeal.sig) → Buf (Elt Ideal) ℓ)
  (V0 : Valuation Cert.ReferenceIdeal.τ Cert.ReferenceIdeal.sig (Elt Ideal)) (c : Dev Cert.KernelIdeal.nD)

/-- Both programs pad the images alike. -/
theorem pad_eq (h0 : arg0 V0 = a0 m c) (n : Fin 8) (z : Fin 10) (y x : Fin 30) (k : Fin 96) :
    xp m c (ix5 n z y x k) = pad0 V0 (ix5 n k z y x) := by
  rw [xp_at, pad0_at, h0]

/-- The kernel's added amount is minus 0.7 times the reference's second weights. -/
theorem kdn_eq (h1 : wgt0 V0 = a1 m c) (e k : Fin 96) : kdn m c (ix2 e k) = Ideal.ofBits .f32 0xBF333333#32 * kdr (wgt0 V0) e k := by
  rw [kdn_at, h1]
  rfl

/-- Each tap contributes alike, but for the centre one, where the second convolution is subtracted. -/
theorem tap_eq (h0 : arg0 V0 = a0 m c) (h1 : wgt0 V0 = a1 m c) (f0 : ∀ i, arg0 V0 i ≠ ⊤ ∧ arg0 V0 i ≠ ⊥) (f1 : ∀ i, wgt0 V0 i ≠ ⊤ ∧ wgt0 V0 i ≠ ⊥)
    (n d : Fin 8) (y x : Fin 28) (e : Fin 96) (t : Fin 27) :
    tap (slab (xp m c) n) (wq m c) d y x e t = cvs V0 n e d y x t
      + if t = 13 then -(Ideal.ofBits .f32 0x3F333333#32 * ∑ k : Fin 96, x0 V0 (ix5 n k d y x) * kdr (wgt0 V0) e k) else 0 := by
  have hx : ∀ (z : Fin 10) (a b : Fin 30) (k : Fin 96), slab (xp m c) n (ix5 0 z a b k) = pad0 V0 (ix5 n k z a b) := fun z a b k => pad_eq m V0 c h0 n z a b k
  unfold tap
  by_cases ht : t = 13
  · subst ht
    rw [if_pos rfl]
    have hp : ∀ k : Fin 96, pad0 V0 (ix5 n k ⟨d.val + 1, by omega⟩ ⟨y.val + 1, by omega⟩ ⟨x.val + 1, by omega⟩) = x0 V0 (ix5 n k d y x) := fun k => by
      rw [pad0_at, x0_at, dif_pos ⟨⟨by simp, by simp⟩, ⟨by simp, by simp⟩, by simp, by simp⟩]
      rfl
    have key := centre (fun k => x0 V0 (ix5 n k d y x)) (fun k => wgt0 V0 (ix5 e k 1 1 1)) (fun k => kdr (wgt0 V0) e k) ?_ ?_ ?_
    · refine Eq.trans (Finset.sum_congr rfl fun k _ => ?_) (key.trans (congrArg (· + _) (Finset.sum_congr rfl fun k _ => ?_)))
      · refine congr (congrArg HMul.hMul ((hx _ _ _ k).trans (hp k))) ?_
        rw [wq_read, weff_at, if_pos ⟨by decide, by decide, by decide⟩, kdn_eq m V0 c h1, h1]
        rfl
      · exact congrArg (· * _) (hp k).symm
    · exact fun k => ⟨_, by rw [x0_at]; exact (EReal.coe_toReal (f0 _).1 (f0 _).2).symm⟩
    · exact fun k => ⟨_, (EReal.coe_toReal (f1 _).1 (f1 _).2).symm⟩
    · intro k
      obtain ⟨u, hu⟩ := sum_real (fun y : Fin 3 => ∑ x : Fin 3, wgt0 V0 (ix5 e k 0 y x)) fun y => sum_real _ fun x => ⟨_, (EReal.coe_toReal (f1 _).1 (f1 _).2).symm⟩
      obtain ⟨v, hv⟩ := sum_real (fun y : Fin 3 => ∑ x : Fin 3, wgt0 V0 (ix5 e k 2 y x)) fun y => sum_real _ fun x => ⟨_, (EReal.coe_toReal (f1 _).1 (f1 _).2).symm⟩
      exact ⟨u + v, by unfold kdr; rw [hu, hv, EReal.coe_add]⟩
  · rw [if_neg ht, add_zero]
    refine Finset.sum_congr rfl fun k _ => ?_
    refine congr (congrArg HMul.hMul (hx _ _ _ k)) ?_
    rw [wq_read, weff_at, if_neg, h1]
    rintro ⟨p, q, r⟩
    have p' := congrArg Fin.val p
    have q' := congrArg Fin.val q
    have r' := congrArg Fin.val r
    change t.val / 9 = 1 at p'
    change t.val % 9 / 3 = 1 at q'
    change t.val % 3 = 1 at r'
    exact ht (Fin.ext (by show t.val = 13; omega))

/-- Both programs have the same q. -/
theorem q_eq (h0 : arg0 V0 = a0 m c) (h1 : wgt0 V0 = a1 m c) (f0 : ∀ i, arg0 V0 i ≠ ⊤ ∧ arg0 V0 i ≠ ⊥) (f1 : ∀ i, wgt0 V0 i ≠ ⊤ ∧ wgt0 V0 i ≠ ⊥) :
    qf m c = chan (q0 V0) := by
  funext n d y x e
  unfold chan
  rw [v181_at]
  show ∑ t, tap (slab (xp m c) n) (wq m c) d y x e t = _
  rw [Finset.sum_congr rfl fun t _ => tap_eq m V0 c h0 h1 f0 f1 n d y x e t, Finset.sum_add_distrib, Finset.sum_ite_eq' Finset.univ (13 : Fin 27), if_pos (Finset.mem_univ _)]
  rfl
/-- The inside of the kernel's padded images is the reference's images. -/
theorem centre_eq (h0 : arg0 V0 = a0 m c) (n : Fin 8) (k : Fin 96) (d : Fin 8) (y x : Fin 28) :
    slab (xp m c) n (ix5 0 ⟨d.val + 1, by omega⟩ ⟨y.val + 1, by omega⟩ ⟨x.val + 1, by omega⟩ k) = x0 V0 (ix5 n k d y x) := by
  refine (pad_eq m V0 c h0 n ⟨d.val + 1, by omega⟩ ⟨y.val + 1, by omega⟩ ⟨x.val + 1, by omega⟩ k).trans ?_
  rw [pad0_at, x0_at, dif_pos ⟨⟨by simp, by simp⟩, ⟨by simp, by simp⟩, by simp, by simp⟩]
  rfl
/-- Both programs have the same k. -/
theorem k_eq (h0 : arg0 V0 = a0 m c) (h2 : w2 V0 = a2 m c) : kf m c = chan (k0 V0) := by
  funext n d y x e
  unfold chan
  rw [v187_at]
  refine Finset.sum_congr rfl fun k _ => congr (congrArg HMul.hMul (centre_eq m V0 c h0 n k d y x)) ?_
  rw [wk_at, h2]
/-- Both programs have the same x. -/
theorem x_eq (h0 : arg0 V0 = a0 m c) : xf m c = chan (x0 V0) := by
  funext n d y x e
  exact centre_eq m V0 c h0 n e d y x
end Cert.Centre
-- ==== Proof.BatchNorm.lean ====
module

public import Idealize.ShloMosaic.PureOps.Ideal

@[expose] public section

/-! Normalisation of one channel from its sum and its sum of squares, over the extended reals. -/

open Idealize Idealize.ShloMosaic
namespace Cert.Norm

/-- The number of entries of a channel, as the program's word for it denotes it. -/
noncomputable abbrev cnt : EReal := Ideal.ofBits .f32 0x47440000#32
/-- The constant added to the variance, as the program's word for it denotes it. -/
noncomputable abbrev eps : EReal := Ideal.ofBits .f32 0x3727C5AC#32

/-- The mean of a channel whose entries add up to `t`. -/
noncomputable def mean (t : EReal) : EReal := Ideal.div t cnt
/-- The variance of a channel with sum `t` and sum of squares `u`. -/
noncomputable def var (t u : EReal) : EReal := Ideal.div u cnt - mean t * mean t
/-- The factor by which the affine form multiplies. -/
noncomputable def scale (t u g : EReal) : EReal := g * Ideal.rsqrt (var t u + eps)
/-- The constant that the affine form adds. -/
noncomputable def shift (t u g b : EReal) : EReal := b - mean t * scale t u g
/-- The normalised value of `x`, written as it is defined. -/
noncomputable def norm (t u g b x : EReal) : EReal := Ideal.div (x - mean t) (Ideal.sqrt (var t u + eps)) * g + b

/-- The number of entries is a real number other than zero. -/
theorem cnt_real : ∃ r : ℝ, cnt = r ∧ r ≠ 0 := by
  refine ⟨50176, ?_, by norm_num⟩
  simp [cnt, Ideal.ofBits, Ideal.ieee]
  rw [← EReal.coe_mul]
  norm_num

/-- The constant added to the variance is a real number. -/
theorem eps_real : ∃ r : ℝ, eps = r := by
  simp [eps, Ideal.ofBits, Ideal.ieee]
  exact ⟨_, (EReal.coe_mul _ _).symm⟩

/-- The quotient of two real numbers, the divisor other than zero. -/
theorem div_real (x : ℝ) {y : ℝ} (h : y ≠ 0) : Ideal.div (x : EReal) y = ((x / y : ℝ) : EReal) := by
  rw [Ideal.div_coe h, ← EReal.coe_mul, mul_one_div]

/-- The mean of a finite sum is finite. -/
theorem mean_real {t : EReal} (ht : ∃ r : ℝ, t = r) : ∃ r : ℝ, mean t = r := by
  obtain ⟨r, rfl⟩ := ht
  obtain ⟨n, hn, h0⟩ := cnt_real
  exact ⟨r / n, by rw [mean, hn, div_real _ h0]⟩

/-- The variance from finite sums is finite. -/
theorem var_real {t u : EReal} (ht : ∃ r : ℝ, t = r) (hu : ∃ r : ℝ, u = r) : ∃ r : ℝ, var t u = r := by
  obtain ⟨m, hm⟩ := mean_real ht
  obtain ⟨v, rfl⟩ := hu
  obtain ⟨n, hn, h0⟩ := cnt_real
  exact ⟨v / n - m * m, by rw [var, hm, hn, div_real _ h0, EReal.coe_sub, EReal.coe_mul]⟩

/-- For finite arguments and a positive variance (the constant added) the factor and the added constant are finite. -/
theorem affine_real {t u g b : EReal} (ht : ∃ r : ℝ, t = r) (hu : ∃ r : ℝ, u = r) (hg : ∃ r : ℝ, g = r) (hb : ∃ r : ℝ, b = r)
    (hp : 0 < var t u + eps) : (∃ r : ℝ, scale t u g = r) ∧ ∃ r : ℝ, shift t u g b = r := by
  obtain ⟨m, hm⟩ := mean_real ht
  obtain ⟨v, hv⟩ := var_real ht hu
  obtain ⟨e, he⟩ := eps_real
  obtain ⟨g, rfl⟩ := hg
  obtain ⟨b, rfl⟩ := hb
  rw [hv, he, ← EReal.coe_add] at hp
  have hp' : 0 < v + e := EReal.coe_pos.1 hp
  have hs : scale t u g = ((g * (Real.sqrt (v + e))⁻¹ : ℝ) : EReal) := by
    rw [scale, hv, he, ← EReal.coe_add, Ideal.rsqrt_coe, if_neg (not_lt.2 hp'.le), if_neg hp'.ne', EReal.coe_mul]
  exact ⟨⟨_, hs⟩, _, by rw [shift, hs, hm, ← EReal.coe_mul, ← EReal.coe_sub]⟩

/-- For finite arguments and a positive variance (the constant added) the affine form is the normalised value. -/
theorem affine_eq {t u g b x : EReal} (ht : ∃ r : ℝ, t = r) (hu : ∃ r : ℝ, u = r) (hg : ∃ r : ℝ, g = r) (hb : ∃ r : ℝ, b = r)
    (hx : ∃ r : ℝ, x = r) (hp : 0 < var t u + eps) : x * scale t u g + shift t u g b = norm t u g b x := by
  obtain ⟨m, hm⟩ := mean_real ht
  obtain ⟨v, hv⟩ := var_real ht hu
  obtain ⟨e, he⟩ := eps_real
  obtain ⟨g, rfl⟩ := hg
  obtain ⟨b, rfl⟩ := hb
  obtain ⟨x, rfl⟩ := hx
  rw [hv, he, ← EReal.coe_add] at hp
  have hp' : 0 < v + e := EReal.coe_pos.1 hp
  have hs : scale t u g = ((g * (Real.sqrt (v + e))⁻¹ : ℝ) : EReal) := by
    rw [scale, hv, he, ← EReal.coe_add, Ideal.rsqrt_coe, if_neg (not_lt.2 hp'.le), if_neg hp'.ne', EReal.coe_mul]
  rw [norm, shift, hs, hm, hv, he, ← EReal.coe_add, Ideal.sqrt_coe, if_neg (not_lt.2 hp'.le), ← EReal.coe_sub, div_real _ (Real.sqrt_ne_zero'.2 hp')]
  simp only [← EReal.coe_mul, ← EReal.coe_add, ← EReal.coe_sub]
  congr 1
  rw [div_eq_mul_inv]
  ring

/-- The result is finite too. -/
theorem norm_real {t u g b x : EReal} (ht : ∃ r : ℝ, t = r) (hu : ∃ r : ℝ, u = r) (hg : ∃ r : ℝ, g = r) (hb : ∃ r : ℝ, b = r)
    (hx : ∃ r : ℝ, x = r) (hp : 0 < var t u + eps) : ∃ r : ℝ, norm t u g b x = r := by
  rw [← affine_eq ht hu hg hb hx hp]
  obtain ⟨⟨s, hs⟩, a, ha⟩ := affine_real ht hu hg hb hp
  obtain ⟨x, rfl⟩ := hx
  exact ⟨x * s + a, by rw [hs, ha, EReal.coe_add, EReal.coe_mul]⟩

/-- The sum that a reduction of finite entries leaves is finite. -/
theorem reduce_real {s : Shape} {axes : List (Fin s.rank)} {t : Shape} (h : s.ReducesTo axes t) (x : s.Idx → EReal)
    (hx : ∀ i, ∃ r : ℝ, x i = r) (j : t.Idx) : ∃ r : ℝ, Ideal.hostReduceAdd h x 0 j = r := by
  choose g hg using hx
  refine ⟨∑ i ∈ Finset.univ.filter (fun i => h.drop i = j), g i, ?_⟩
  unfold Ideal.hostReduceAdd
  rw [zero_add]
  simp only [hg]
  induction Finset.univ.filter (fun i => h.drop i = j) using Finset.cons_induction with
  | empty => simp
  | cons a S ha ih => rw [Finset.sum_cons, Finset.sum_cons, EReal.coe_add, ih]

end Cert.Norm
-- ==== Proof.OutputCall.lean ====
module

public import proofs.«01_k».proof.Proof.BatchNorm
public import proofs.«01_k».proof.Proof.HostReads
public import proofs.«01_k».proof.Proof.Gen.Kernel3Ideal.Frame
public import Idealize.ShloMosaic.Lib.Claim
public import Idealize.ShloMosaic.Lib.Pointwise
public import Idealize.ShloMosaic.Lib.Pipeline.ValueKit
public import Idealize.ShloMosaic.Lib.StableHlo.ReadAt

@[expose] public section

/-! The last launch: the array it leaves, and the array the program returns. -/

open Idealize Idealize.ShloMosaic Idealize.ShloMosaic.Pipeline Idealize.ShloMosaic.TcCoe Idealize.SL.Sem
namespace Cert.Kernel3Ideal.Last
open Cert.Kernel3Ideal Cert.Kernel3Ideal.Gen
attribute [local instance] Cert.Kernel3Ideal.Gen.facts₀
set_option maxRecDepth 16384

variable (m : (ℓ : Loc nD τ sig) → Buf (Elt Ideal) ℓ)

/-- The projected array, as the launch is given it. -/
noncomputable abbrev yw (c : Dev nD) : Vec Ideal S4x2x8x4x196x96 .f32 := m ((c : Thread nD τ).loc main_arg0)
/-- The per-channel sums and sums of squares of each image, as the launch is given them. -/
noncomputable abbrev st (c : Dev nD) : Vec Ideal S2x4x2x96 .f32 := m ((c : Thread nD τ).loc main_arg1)
/-- The factor of the last normalisation. -/
noncomputable abbrev gp (c : Dev nD) : Vec Ideal S96 .f32 := m ((c : Thread nD τ).loc main_arg2)
/-- The constant of the last normalisation. -/
noncomputable abbrev bp (c : Dev nD) : Vec Ideal S96 .f32 := m ((c : Thread nD τ).loc main_arg3)
/-- The factors and the constants of the affine form, one row each, as the launch finds them. -/
noncomputable abbrev aff (c : Dev nD) : Vec Ideal S2x96 .f32 := V m c main_call0_v19

/-- The sum over all images of channel `e` in row `r` of the sums. -/
noncomputable def tot (S : Vec Ideal S2x4x2x96 .f32) (r : Fin 2) (e : Fin 96) : EReal :=
  Ideal.hostReduceAdd reducesTo_S2x4x2x96_S2x96_d0_1 S 0 (ix2 r e)

/-- The affine form is its two rows, one above the other. -/
theorem aff_eq (c : Dev nD) : aff m c = concatenate S2x96 0 [⟨S1x96, (V m c main_call0_v17 : Vec Ideal S1x96 .f32)⟩,
    ⟨S1x96, (V m c main_call0_v18 : Vec Ideal S1x96 .f32)⟩] concatenates_S1x96_S1x96_S2x96_d0 := by
  unfold aff V V0
  refine (StableHlo.after_last_write (i := 23) [] rfl rfl (by decide) _).trans ?_
  rw [← Reads.read_early (ops := [hostOps0].flatten) 23 [main_call0_v19] rfl (r := main_call0_v17) (by decide),
    ← Reads.read_early (ops := [hostOps0].flatten) 23 [main_call0_v19] rfl (r := main_call0_v18) (by decide)]
  rfl

/-- Row 0 of the affine form holds the factors. -/
theorem aff_scale (c : Dev nD) (e : Fin 96) : aff m c (ix2 0 e) = Norm.scale (tot (st m c) 0 e) (tot (st m c) 1 e) (gp m c (ix1 e)) := by
  rw [aff_eq]
  pointwise
  unfold V
  after_reads_at
  rfl

/-- Row 1 of the affine form holds the added constants. -/
theorem aff_shift (c : Dev nD) (e : Fin 96) :
    aff m c (ix2 1 e) = Norm.shift (tot (st m c) 0 e) (tot (st m c) 1 e) (gp m c (ix1 e)) (bp m c (ix1 e)) := by
  rw [aff_eq]
  pointwise
  unfold V
  after_reads_at
  rfl

/-- The array the launch leaves: every entry times its channel's factor, plus its channel's constant. -/
noncomputable def outArr (Y : Vec Ideal S4x2x8x4x196x96 .f32) (A : Vec Ideal S2x96 .f32) : Vec Ideal S4x2x8x4x196x96 .f32 :=
  fun j => Y j * A (ix2 0 (j 5)) + A (ix2 1 (j 5))

/-- Which block of the projected array each grid point is given. -/
theorem idx0 : ∀ t : Fin grid0.N, win0_0.index t = ![(grid0.coords t 0).val / 2, (grid0.coords t 0).val % 2, 0, 0, 0, 0] := by decide +kernel
/-- Every grid point is given the whole affine form. -/
theorem idx1 : ∀ t : Fin grid0.N, win0_1.index t = ![0, 0] := by decide +kernel
/-- Which block of the result each grid point fills. -/
theorem idx2 : ∀ t : Fin grid0.N, win0_2.index t = ![(grid0.coords t 0).val / 2, (grid0.coords t 0).val % 2, 0, 0, 0, 0] := by decide +kernel

/-- Six zero offsets are the zero offset. -/
theorem hz6 : (![0, 0, 0, 0, 0, 0] : Fin 6 → Nat) = fun _ => 0 := funext fun a => by fin_cases a <;> rfl

/-- One block of the result, entry by entry. -/
theorem out_at (x0 : Vec Ideal S1x1x8x4x196x96 .f32) (x1 : Vec Ideal S2x96 .f32) (w : Fin 8) (d : Fin 4) (p : Fin 196) (e : Fin 96) :
    out0_2 x0 x1 (ix6 0 0 w d p e) = x0 (ix6 0 0 w d p e) * x1 (ix2 0 e) + x1 (ix2 1 e) := by
  unfold out0_2
  rw [View.canon_unit_zero hz6]
  pointwise [k0_pay1]

/-- A place in a block, by its four free coordinates. -/
theorem eta (y : S1x1x8x4x196x96.Idx) : y = ix6 0 0 (y 2) (y 3) (y 4) (y 5) := by
  funext a
  fin_cases a <;> first | rfl | exact Subsingleton.elim (α := Fin 1) _ _

/-- The block of the affine form is the whole of it. -/
theorem blk1 (c : Dev nD) (t : Fin cfg0.N) : iblk m c 1 t = aff m c := by
  funext y
  blk_ext [iblk, idx1 t]

/-- The array the launch leaves. -/
theorem final2 (c : Dev nD) : (dats m 0 c).arrAt 2 cfg0.N = outArr (yw m c) (aff m c) := by
  refine (dats m 0 c).arrAt_eq_of_covers 2 _ (by decide +kernel) fun t hf y => ?_
  blk_simp
  rw [after0_2]
  refine ((congrArg _ (eta y)).trans (out_at _ _ _ _ _ _)).trans ?_
  rw [blk1]
  unfold outArr
  have e5 : (win0_2.blk t).view.emb y 5 = y 5 := Fin.ext (by blk_simp [idx2 t])
  rw [e5]
  refine congrArg (fun z => z * _ + _) ?_
  blk_ext [iblk, idx0 t, idx2 t]

/-- The array the program returns is the launch's, its windows laid back into images. -/
theorem tail (c : Dev nD) : Pipeline.afterTail₀ cfgs (dats m) 0 (V0 m) [hostOps1] c main_v0
    = shapeCast S4x2x96x8x28x28 (transpose S4x2x96x2x4x2x14x2x14 [0, 1, 8, 2, 5, 3, 6, 4, 7]
        (shapeCast S4x2x2x2x2x4x14x14x96 (outArr (yw m c) (aff m c)) shapeCasts_S4x2x8x4x196x96_S4x2x2x2x2x4x14x14x96)
        transposes_S4x2x2x2x2x4x14x14x96_S4x2x96x2x4x2x14x2x14_0_1_8_2_5_3_6_4_7) shapeCasts_S4x2x96x2x4x2x14x2x14_S4x2x96x8x28x28 := by
  unfold Pipeline.afterTail₀
  rw [← final2 m c]
  after_reads_simp
  have h : withArrays (cfgs 0).spec c (V0 m c) (fun w => (dats m 0 c).arrAt w (cfgs 0).N) (Proc.tc.devRef main_call0_v20) = (dats m 0 c).arrAt 2 cfg0.N :=
    withArrays_arr (cfgs 0).spec (by decide) c (V0 m c) (fun w => (dats m 0 c).arrAt w (cfgs 0).N) 2
  rw [h]
  generalize (dats m 0 c).arrAt 2 cfg0.N = A
  simp -implicitDefEqProofs only [StableHlo.TRef.toBuf, StableHlo.TRef.ofBuf, cast_eq]
  rfl

end Cert.Kernel3Ideal.Last
-- ==== Proof.OutputValue.lean ====
module

public import proofs.«01_k».proof.Proof.OutputCall
public import proofs.«01_k».proof.Proof.Finite
public import proofs.«01_k».proof.Proof.Gen.Reference3Ideal.Run
public import proofs.«01_k».proof.Proof.Gen.Pre_finite3

@[expose] public section

/-! The last launch beside its reference. -/

open Idealize Idealize.ShloMosaic Idealize.ShloMosaic.TcCoe Idealize.SL.Sem
namespace Cert.OutputValue
open Cert.Finite
set_option maxRecDepth 16384

section
open Cert.Pre_finite3
attribute [local instance] Cert.Pre_finite3.Gen.facts
/-- What the precondition says of the arguments: their entries are finite, and each channel's variance, the constant added,
    is positive. -/
theorem args_finite (Y : FVec Ideal S4x2x8x4x196x96 .f32) (S : FVec Ideal S2x4x2x96 .f32) (g b : FVec Ideal S96 .f32)
    (h : Cert.Pre_finite3.fn (F := Ideal) Y S g b = fun _ => 1#1) :
    ((∀ i, ∃ r : ℝ, Y i = r) ∧ (∀ i, ∃ r : ℝ, S i = r) ∧ (∀ i, ∃ r : ℝ, g i = r) ∧ ∀ i, ∃ r : ℝ, b i = r) ∧
      ∀ e : Fin 96, 0 < Norm.var (Kernel3Ideal.Last.tot S 0 e) (Kernel3Ideal.Last.tot S 1 e) + Norm.eps := by
  have h0 := congrFun h ix0
  dsimp only [Cert.Pre_finite3.fn, Cert.Pre_finite3.fn_part1, Cert.Pre_finite3.fn_part2] at h0
  obtain ⟨h1, hP⟩ := IntOp.andi_eq_one.1 h0
  obtain ⟨h2, hB⟩ := IntOp.andi_eq_one.1 h1
  obtain ⟨h3, hG⟩ := IntOp.andi_eq_one.1 h2
  obtain ⟨hY, hS⟩ := IntOp.andi_eq_one.1 h3
  have : Subsingleton S_.Idx := ⟨fun a b => funext fun x => x.elim0⟩
  refine ⟨⟨fun i => real_of (word_finite _ (Host.reduce_andi_all _ _ _ _ _ hY i)), fun i => real_of (word_finite _ (Host.reduce_andi_all _ _ _ _ _ hS i)),
    fun i => real_of (word_finite _ (Host.reduce_andi_all _ _ _ _ _ hG i)), fun i => real_of (word_finite _ (Host.reduce_andi_all _ _ _ _ _ hB i))⟩, fun e => ?_⟩
  have hp := Host.reduce_andi_all _ _ _ _ _ hP (ix1 e)
  revert hp
  pointwise
  intro hp
  exact of_bit hp
end

section
open Cert.Reference3Ideal Cert.Reference3Ideal.Gen
/-- The normalised array of the reference is the array the launch leaves. -/
theorem norm_eq (Y : FVec Ideal S4x2x8x4x196x96 .f32) (S : FVec Ideal S2x4x2x96 .f32) (g b : FVec Ideal S96 .f32) (A : FVec Ideal S2x96 .f32)
    (hA : ∀ e, A (ix2 0 e) = Norm.scale (Kernel3Ideal.Last.tot S 0 e) (Kernel3Ideal.Last.tot S 1 e) (g (ix1 e)))
    (hB : ∀ e, A (ix2 1 e) = Norm.shift (Kernel3Ideal.Last.tot S 0 e) (Kernel3Ideal.Last.tot S 1 e) (g (ix1 e)) (b (ix1 e)))
    (fY : ∀ i, ∃ r : ℝ, Y i = r) (fS : ∀ i, ∃ r : ℝ, S i = r) (fg : ∀ i, ∃ r : ℝ, g i = r) (fb : ∀ i, ∃ r : ℝ, b i = r)
    (hp : ∀ e : Fin 96, 0 < Norm.var (Kernel3Ideal.Last.tot S 0 e) (Kernel3Ideal.Last.tot S 1 e) + Norm.eps) :
    (addf (mulf (Host.divf (subf Y (broadcastInDim S4x2x8x4x196x96 ![0, 1, 2, 3, 4, 5] bcast_S1x1x1x1x1x96_S4x2x8x4x196x96_0_1_2_3_4_5 (broadcastInDim S1x1x1x1x1x96 ![5] bcast_S96_S1x1x1x1x1x96_5 (Host.divf (shapeCast _ (extractStridedSlice S1x96 ![0, 0] (Host.reduceAdd S (constant S_ .f32 0x00000000#32) reducesTo_S2x4x2x96_S2x96_d0_1 h_S_) slices_S2x96_S1x96_0_0) shapeCasts_S1x96_S96) (broadcastInDim S96 ![] bcast_S_S96 (constant S_ .f32 0x47440000#32)))))) (broadcastInDim S4x2x8x4x196x96 ![0, 1, 2, 3, 4, 5] bcast_S1x1x1x1x1x96_S4x2x8x4x196x96_0_1_2_3_4_5 (broadcastInDim S1x1x1x1x1x96 ![5] bcast_S96_S1x1x1x1x1x96_5 (Host.sqrt (addf (subf (Host.divf (shapeCast _ (extractStridedSlice S1x96 ![1, 0] (Host.reduceAdd S (constant S_ .f32 0x00000000#32) reducesTo_S2x4x2x96_S2x96_d0_1 h_S_) slices_S2x96_S1x96_1_0) shapeCasts_S1x96_S96) (broadcastInDim S96 ![] bcast_S_S96 (constant S_ .f32 0x47440000#32))) (mulf (Host.divf (shapeCast _ (extractStridedSlice S1x96 ![0, 0] (Host.reduceAdd S (constant S_ .f32 0x00000000#32) reducesTo_S2x4x2x96_S2x96_d0_1 h_S_) slices_S2x96_S1x96_0_0) shapeCasts_S1x96_S96) (broadcastInDim S96 ![] bcast_S_S96 (constant S_ .f32 0x47440000#32))) (Host.divf (shapeCast _ (extractStridedSlice S1x96 ![0, 0] (Host.reduceAdd S (constant S_ .f32 0x00000000#32) reducesTo_S2x4x2x96_S2x96_d0_1 h_S_) slices_S2x96_S1x96_0_0) shapeCasts_S1x96_S96) (broadcastInDim S96 ![] bcast_S_S96 (constant S_ .f32 0x47440000#32))))) (broadcastInDim S96 ![] bcast_S_S96 (constant S_ .f32 0x3727C5AC#32))))))) (broadcastInDim S4x2x8x4x196x96 ![0, 1, 2, 3, 4, 5] bcast_S1x1x1x1x1x96_S4x2x8x4x196x96_0_1_2_3_4_5 (broadcastInDim S1x1x1x1x1x96 ![5] bcast_S96_S1x1x1x1x1x96_5 g))) (broadcastInDim S4x2x8x4x196x96 ![0, 1, 2, 3, 4, 5] bcast_S1x1x1x1x1x96_S4x2x8x4x196x96_0_1_2_3_4_5 (broadcastInDim S1x1x1x1x1x96 ![5] bcast_S96_S1x1x1x1x1x96_5 b))) = Kernel3Ideal.Last.outArr Y A := by
  funext j
  obtain ⟨t, b', w, d, p, e, rfl⟩ : ∃ (t : Fin 4) (b' : Fin 2) (w : Fin 8) (d : Fin 4) (p : Fin 196) (e : Fin 96), j = ix6 t b' w d p e :=
    ⟨j 0, j 1, j 2, j 3, j 4, j 5, ValueIdx.eq_ix6 j⟩
  have key := Norm.affine_eq (Norm.reduce_real _ S fS (ix2 0 e)) (Norm.reduce_real _ S fS (ix2 1 e)) (fg (ix1 e)) (fb (ix1 e)) (fY (ix6 t b' w d p e)) (hp e)
  refine Eq.trans ?_ (key.symm.trans ?_)
  · pointwise
    rfl
  · unfold Kernel3Ideal.Last.outArr
    exact congrArg₂ (fun x y => Y (ix6 t b' w d p e) * x + y) (hA e).symm (hB e).symm
end
end Cert.OutputValue
-- ==== Proof.AttendIdealStep.lean ====
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Value

/-!
The attention call's body at one grid point, as a step on its six carried arrays: the four membrane
potentials' arrays of the queries, keys and values and of the attention scores, the one of the outputs, and
the routing matrix. A step is stated for whatever the six arrays hold, so it covers the first grid point,
where their contents are arbitrary.
-/

@[expose] public section

set_option maxRecDepth 16384

noncomputable section

namespace Cert.Kernel2Ideal.Attend

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What the seven staged inputs hold at a grid point. -/
structure Ins (F : FTy → Type) where
  q : Vec F S1x1x8x4x196x96 .f32
  k : Vec F S1x1x8x4x196x96 .f32
  v : Vec F S1x1x8x4x196x96 .f32
  reg : Vec F S1x2x8x96 .f32
  aff : Vec F S6x96 .f32
  wp : Vec F S96x96 .f32
  seg : Vec F S96x4 .f32

/-- What the six carried arrays hold. -/
structure Carried (F : FTy → Type) where
  vq : Vec F S8x784x96 .f32
  vk : Vec F S8x784x96 .f32
  vv : Vec F S8x784x96 .f32
  va : Vec F S6272x4 .f32
  vo : Vec F S8x784x96 .f32
  rs : Vec F S8x8 .f32

/-- What the body loads of its inputs: three blocks, the six rows of scales and shifts, the two blocks of region
    sums, the projection and the heads' segments. -/
structure Loads (F : FTy → Type) where
  q : Vec F S1x1x8x4x196x96 .f32
  k : Vec F S1x1x8x4x196x96 .f32
  v : Vec F S1x1x8x4x196x96 .f32
  r0 : Vec F S1x96 .f32
  r1 : Vec F S1x96 .f32
  r2 : Vec F S1x96 .f32
  r3 : Vec F S1x96 .f32
  r4 : Vec F S1x96 .f32
  r5 : Vec F S1x96 .f32
  regQ : Vec F S1x1x8x96 .f32
  regK : Vec F S1x1x8x96 .f32
  wp : Vec F S96x96 .f32
  seg : Vec F S96x4 .f32

/-- The rectangles the body loads and stores through. -/
abbrev RBlk : Rect S1x1x8x4x196x96 := Rect.unit (s := S1x1x8x4x196x96) ![0, 0, 0, 0, 0, 0] S1x1x8x4x196x96.size inb_S1x1x8x4x196x96_S1x1x8x4x196x96_0_0_0_0_0_0
abbrev RRow0 : Rect S6x96 := Rect.unit (s := S6x96) ![0, 0] S1x96.size inb_S6x96_S1x96_0_0
abbrev RRow1 : Rect S6x96 := Rect.unit (s := S6x96) ![1, 0] S1x96.size inb_S6x96_S1x96_1_0
abbrev RRow2 : Rect S6x96 := Rect.unit (s := S6x96) ![2, 0] S1x96.size inb_S6x96_S1x96_2_0
abbrev RRow3 : Rect S6x96 := Rect.unit (s := S6x96) ![3, 0] S1x96.size inb_S6x96_S1x96_3_0
abbrev RRow4 : Rect S6x96 := Rect.unit (s := S6x96) ![4, 0] S1x96.size inb_S6x96_S1x96_4_0
abbrev RRow5 : Rect S6x96 := Rect.unit (s := S6x96) ![5, 0] S1x96.size inb_S6x96_S1x96_5_0
abbrev RRegQ : Rect S1x2x8x96 := Rect.unit (s := S1x2x8x96) ![0, 0, 0, 0] S1x1x8x96.size inb_S1x2x8x96_S1x1x8x96_0_0_0_0
abbrev RRegK : Rect S1x2x8x96 := Rect.unit (s := S1x2x8x96) ![0, 1, 0, 0] S1x1x8x96.size inb_S1x2x8x96_S1x1x8x96_0_1_0_0
abbrev RWp : Rect S96x96 := Rect.unit (s := S96x96) ![0, 0] S96x96.size inb_S96x96_S96x96_0_0
abbrev RSeg : Rect S96x4 := Rect.unit (s := S96x4) ![0, 0] S96x4.size inb_S96x4_S96x4_0_0
abbrev RMem : Rect S8x784x96 := Rect.unit (s := S8x784x96) ![0, 0, 0] S8x784x96.size inb_S8x784x96_S8x784x96_0_0_0
abbrev RAtt : Rect S6272x4 := Rect.unit (s := S6272x4) ![0, 0] S6272x4.size inb_S6272x4_S6272x4_0_0
abbrev RRs : Rect S8x8 := Rect.unit (s := S8x8) ![0, 0] S8x8.size inb_S8x8_S8x8_0_0

/-- What is loaded when the inputs hold `X`. -/
def loads (X : Ins F) : Loads F where
  q := X.q
  k := X.k
  v := X.v
  r0 := View.ld X.aff RRow0
  r1 := View.ld X.aff RRow1
  r2 := View.ld X.aff RRow2
  r3 := View.ld X.aff RRow3
  r4 := View.ld X.aff RRow4
  r5 := View.ld X.aff RRow5
  regQ := View.ld X.reg RRegQ
  regK := View.ld X.reg RRegK
  wp := X.wp
  seg := X.seg

/-- The scores between windows, from the region sums. -/
def scores (L : Loads F) : FVec F S8x8 .f32 := k0_pay6 L.regQ L.r0 L.r1 L.regK L.r2 L.r3
/-- The lane numbers. -/
def lanes : IVec S8x8 32 := iota .tc S8x8 32 [1] iota_S8x8_d1_w32
/-- The best of the first round of picks, by lane and by row. -/
def best (L : Loads F) : FVec F S8x8 .f32 := k0_pay9 L.regQ L.r0 L.r1 L.regK L.r2 L.r3
def bestCol (L : Loads F) : FVec F S8x1 .f32 := k0_pay10 L.regQ L.r0 L.r1 L.regK L.r2 L.r3
/-- The routing matrix: a quarter at each window's four best windows. -/
def routing (L : Loads F) : FVec F S8x8 .f32 :=
  k0_pay17 (scores L) lanes (k0_pay14 (scores L) lanes k0_pay7 (k0_pay8 (F := F)) (best L) (bestCol L))
    (k0_pay15 (scores L) lanes k0_pay7 (best L) (bestCol L)) (k0_pay16 (scores L) lanes k0_pay7 (best L) (bestCol L))

/-- The normalised queries, keys and values. -/
def qn (L : Loads F) : FVec F S8x784x96 .f32 := k0_pay18 L.q L.r0 L.r1
def kn (L : Loads F) : FVec F S8x784x96 .f32 := k0_pay19 L.k L.r2 L.r3
def vn (L : Loads F) : FVec F S8x784x96 .f32 := k0_pay20 L.v L.r4 L.r5

/-- The gathered values. -/
def vAgg (L : Loads F) (v0 : BitVec 1) (s : Carried F) (rs : Vec F S8x8 .f32) : FVec F S8x784x96 .f32 := k0_pay31 v0 (vn L) s.vv rs
/-- The attention scores before their threshold. -/
def attnIn (L : Loads F) (v0 : BitVec 1) (s : Carried F) (rs : Vec F S8x8 .f32) : FVec F S6272x4 .f32 :=
  k0_pay32 (k0_pay22 v0 (qn L) s.vq) (k0_pay25 v0 (kn L) s.vk) rs L.seg
/-- The output spikes. -/
def spike (L : Loads F) (v0 : BitVec 1) (s : Carried F) (rs : Vec F S8x8 .f32) : FVec F S8x784x96 .f32 :=
  k0_pay37 v0 (vAgg L v0 s rs) (attnIn L v0 s rs) s.va L.seg s.vo

/-- The carried arrays after the body, when the routing matrix in use is `rs`. -/
def stepWith (L : Loads F) (v0 : BitVec 1) (s : Carried F) (rs : Vec F S8x8 .f32) : Carried F where
  vq := k0_pay23 v0 (qn L) s.vq
  vk := k0_pay27 (k0_pay24 v0 (kn L) s.vk) (k0_pay25 v0 (kn L) s.vk)
  vv := k0_pay30 v0 (vn L) s.vv
  va := k0_pay35 v0 (attnIn L v0 s rs) s.va
  vo := k0_pay1 (k0_pay38 v0 (vAgg L v0 s rs) (attnIn L v0 s rs) s.va L.seg s.vo)
  rs := rs

/-- The block of projected values the body writes. -/
def outYWith (L : Loads F) (v0 : BitVec 1) (s : Carried F) (rs : Vec F S8x8 .f32) : Vec F S1x1x8x4x196x96 .f32 := k0_pay3 (spike L v0 s rs) L.wp
/-- The two rows of sums the body writes, as pieces. -/
def sumPieces (L : Loads F) (v0 : BitVec 1) (s : Carried F) (rs : Vec F S8x8 .f32) : List (View.Piece (Elt F) S1x1x2x96 .f32) :=
  [⟨Rect.unit (s := S1x1x2x96) ![0, 0, 1, 0] S1x1x1x96.size inb_S1x1x2x96_S1x1x1x96_0_0_1_0, k0_pay5 (spike L v0 s rs) L.wp⟩,
   ⟨Rect.unit (s := S1x1x2x96) ![0, 0, 0, 0] S1x1x1x96.size inb_S1x1x2x96_S1x1x1x96_0_0_0_0, k0_pay4 (spike L v0 s rs) L.wp⟩]

/-- The routing matrix in use: computed where the flag is set, otherwise the carried one. -/
def rsOf (L : Loads F) (v0 : BitVec 1) (s : Carried F) : Vec F S8x8 .f32 := if v0 = 1#1 then routing L else s.rs
/-- The carried arrays after the body. -/
def step (X : Ins F) (v0 : BitVec 1) (s : Carried F) : Carried F := stepWith (loads X) v0 s (rsOf (loads X) v0 s)
/-- The block of projected values after the body. -/
def outY (X : Ins F) (v0 : BitVec 1) (s : Carried F) : Vec F S1x1x8x4x196x96 .f32 := outYWith (loads X) v0 s (rsOf (loads X) v0 s)
/-- The block of sums after the body. -/
def outS (X : Ins F) (v0 : BitVec 1) (s : Carried F) : Vec F S1x1x2x96 .f32 := View.canon (sumPieces (loads X) v0 s (rsOf (loads X) v0 s))

/-- Where the flag is set a step does not read the carried arrays. -/
theorem step_first (X : Ins F) (s s' : Carried F) : step X 1#1 s = step X 1#1 s' := rfl
/-- At a first step the projected block does not depend on the carried arrays. -/
theorem outY_first (X : Ins F) (s s' : Carried F) : outY X 1#1 s = outY X 1#1 s' := rfl
/-- At a first step the block of sums does not depend on the carried arrays. -/
theorem outS_first (X : Ins F) (s s' : Carried F) : outS X 1#1 s = outS X 1#1 s' := rfl

/-- The flag of the first time step of a batch. -/
def flag (i : grid0.Coords) : BitVec 1 := Scalar.cmpi .eq (BitVec.ofNat 32 (i 1).val) 0#32
/-- The condition under which the body computes the routing matrix. -/
abbrev cond0 (i : grid0.Coords) : Prop := (Scalar.cmpi .ne (Scalar.extui (Scalar.cmpi .eq (BitVec.ofNat 32 (i 1).val) 0#32)) 0#32) = 1#1
/-- It is that the flag is set. -/
theorem cond0_iff (i : grid0.Coords) : cond0 i ↔ flag i = 1#1 := by
  unfold cond0 flag
  generalize Scalar.cmpi .eq (BitVec.ofNat 32 (i 1).val) 0#32 = b
  revert b; decide

/-- The three zero offsets are the zero map. -/
theorem z3 : (![0, 0, 0] : Fin S8x784x96.rank → ℕ) = fun _ => 0 := by funext a; fin_cases a <;> rfl
/-- The two zero offsets are the zero map. -/
theorem z2 : (![0, 0] : Fin 2 → ℕ) = fun _ => 0 := by funext a; fin_cases a <;> rfl
/-- The six zero offsets are the zero map. -/
theorem z6 : (![0, 0, 0, 0, 0, 0] : Fin S1x1x8x4x196x96.rank → ℕ) = fun _ => 0 := by funext a; fin_cases a <;> rfl

/-- A load from a whole array of stated contents. -/
theorem readAt_unread {S : Shape} {e : EltTy} {a : Memref sig .tc .vmem S e} (h : a.IsWhole) (x : S.Idx → Elt F e) (r : Rect S) :
    View.readAt (Elt F) a.view r.toLoadRect (h.unread x) = View.ld x r :=
  congrArg (fun g => View.ld g r) (h.read_unread x)

/-- One store through the whole array leaves its payload. -/
theorem read_whole_store {S : Shape} {e : EltTy} (v : View sig .tc .vmem S e) (f : v.ty.Contents (Elt F)) {off : Fin S.rank → ℕ}
    (h : off = fun _ => 0) (inb : ∀ a, off a + S.size a ≤ S.size a) (w : S.Idx → Elt F e) :
    v.read (Elt F) (v.writes (Elt F) f [(⟨Rect.unit off S.size inb, w⟩ : View.Piece (Elt F) S e)]) = w :=
  (View.read_writes_eq_canon v f _ fun y => ⟨_, List.mem_singleton_self _, View.mem_set_unit_zero h inb y⟩).trans
    (View.canon_unit_zero h inb w)

/-- The two rows of sums fill their block. -/
theorem sum_cover (L : Loads F) (v0 : BitVec 1) (s : Carried F) (rs : Vec F S8x8 .f32) (y : S1x1x2x96.Idx) : ∃ pc ∈ sumPieces L v0 s rs, y ∈ pc.1.set :=
  View.cover_of_tiledL (sumPieces L v0 s rs) S1x1x1x96.size (by sl_kernel_rfl) y

end Cert.Kernel2Ideal.Attend

end
-- ==== Proof.AttendIdealFirst.lean ====
module

public import proofs.«01_k».proof.Proof.AttendIdealStep

/-! The attention call's body at the first time step of a batch. -/

@[expose] public section

set_option maxRecDepth 16384

noncomputable section

namespace Cert.Kernel2Ideal.Attend

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The body at the first time step of a batch, on any whole arrays: the inputs stay, the two result blocks get
    their values and the carried arrays move by one step. -/
theorem body_first (c : Dev nD) (i : grid0.Coords) (arg2 : Memref sig .tc .vmem S1x1x8x4x196x96 .f32) (harg2 : arg2.IsWhole) (arg3 : Memref sig .tc .vmem S1x1x8x4x196x96 .f32) (harg3 : arg3.IsWhole) (arg4 : Memref sig .tc .vmem S1x1x8x4x196x96 .f32) (harg4 : arg4.IsWhole) (arg5 : Memref sig .tc .vmem S1x2x8x96 .f32) (harg5 : arg5.IsWhole) (arg6 : Memref sig .tc .vmem S6x96 .f32) (harg6 : arg6.IsWhole) (arg7 : Memref sig .tc .vmem S96x96 .f32) (harg7 : arg7.IsWhole) (arg8 : Memref sig .tc .vmem S96x4 .f32) (harg8 : arg8.IsWhole) (arg9 : Memref sig .tc .vmem S1x1x8x4x196x96 .f32) (harg9 : arg9.IsWhole) (arg10 : Memref sig .tc .vmem S1x1x2x96 .f32) (harg10 : arg10.IsWhole) (arg11 : Memref sig .tc .vmem S8x784x96 .f32) (harg11 : arg11.IsWhole) (arg12 : Memref sig .tc .vmem S8x784x96 .f32) (harg12 : arg12.IsWhole) (arg13 : Memref sig .tc .vmem S8x784x96 .f32) (harg13 : arg13.IsWhole) (arg14 : Memref sig .tc .vmem S6272x4 .f32) (harg14 : arg14.IsWhole) (arg15 : Memref sig .tc .vmem S8x784x96 .f32) (harg15 : arg15.IsWhole) (arg16 : Memref sig .tc .vmem S8x8 .f32) (harg16 : arg16.IsWhole)
    (hv : flag i = 1#1)
    (X : Ins F) (s : Carried F) (E : Set ℕ) (K : PUnit → sProp 𝕄) :
    iprop(owns (c : Thread nD τ) arg2 fullShare X.q ∗ owns (c : Thread nD τ) arg3 fullShare X.k ∗ owns (c : Thread nD τ) arg4 fullShare X.v ∗ owns (c : Thread nD τ) arg5 fullShare X.reg ∗ owns (c : Thread nD τ) arg6 fullShare X.aff ∗ owns (c : Thread nD τ) arg7 fullShare X.wp ∗ owns (c : Thread nD τ) arg8 fullShare X.seg ∗ (∃ d, owns (c : Thread nD τ) arg9 fullShare d) ∗ (∃ d, owns (c : Thread nD τ) arg10 fullShare d) ∗ owns (c : Thread nD τ) arg11 fullShare s.vq ∗ owns (c : Thread nD τ) arg12 fullShare s.vk ∗ owns (c : Thread nD τ) arg13 fullShare s.vv ∗ owns (c : Thread nD τ) arg14 fullShare s.va ∗ owns (c : Thread nD τ) arg15 fullShare s.vo ∗ owns (c : Thread nD τ) arg16 fullShare s.rs
        ∗ (iprop(owns (c : Thread nD τ) arg2 fullShare X.q ∗ owns (c : Thread nD τ) arg3 fullShare X.k ∗ owns (c : Thread nD τ) arg4 fullShare X.v ∗ owns (c : Thread nD τ) arg5 fullShare X.reg ∗ owns (c : Thread nD τ) arg6 fullShare X.aff ∗ owns (c : Thread nD τ) arg7 fullShare X.wp ∗ owns (c : Thread nD τ) arg8 fullShare X.seg ∗ owns (c : Thread nD τ) arg9 fullShare (outY X (flag i) s) ∗ owns (c : Thread nD τ) arg10 fullShare (outS X (flag i) s) ∗ owns (c : Thread nD τ) arg11 fullShare (step X (flag i) s).vq ∗ owns (c : Thread nD τ) arg12 fullShare (step X (flag i) s).vk ∗ owns (c : Thread nD τ) arg13 fullShare (step X (flag i) s).vv ∗ owns (c : Thread nD τ) arg14 fullShare (step X (flag i) s).va ∗ owns (c : Thread nD τ) arg15 fullShare (step X (flag i) s).vo ∗ owns (c : Thread nD τ) arg16 fullShare (step X (flag i) s).rs) -∗ K ⟨⟩))
      ⊢ wp frame (wpE (defs₀ (F := F)) Variants.none c none) E (cc0__k3_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hc0 : cond0 i := (cond0_iff i).mpr hv
  simp only [cc0__k3_body_eq_skeleton]; unfold cc0__k3_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5
  let L : Loads F := ⟨View.readAt (Elt F) arg2.view RBlk.toLoadRect (harg2.unread X.q), View.readAt (Elt F) arg3.view RBlk.toLoadRect (harg3.unread X.k), View.readAt (Elt F) arg4.view RBlk.toLoadRect (harg4.unread X.v), View.readAt (Elt F) arg6.view RRow0.toLoadRect (harg6.unread X.aff), View.readAt (Elt F) arg6.view RRow1.toLoadRect (harg6.unread X.aff), View.readAt (Elt F) arg6.view RRow2.toLoadRect (harg6.unread X.aff), View.readAt (Elt F) arg6.view RRow3.toLoadRect (harg6.unread X.aff), View.readAt (Elt F) arg6.view RRow4.toLoadRect (harg6.unread X.aff), View.readAt (Elt F) arg6.view RRow5.toLoadRect (harg6.unread X.aff), View.readAt (Elt F) arg5.view RRegQ.toLoadRect (harg5.unread X.reg), View.readAt (Elt F) arg5.view RRegK.toLoadRect (harg5.unread X.reg), View.readAt (Elt F) arg7.view RWp.toLoadRect (harg7.unread X.wp), View.readAt (Elt F) arg8.view RSeg.toLoadRect (harg8.unread X.seg)⟩
  let S : Carried F := ⟨View.readAt (Elt F) arg11.view RMem.toLoadRect (harg11.unread s.vq), View.readAt (Elt F) arg12.view RMem.toLoadRect (harg12.unread s.vk), View.readAt (Elt F) arg13.view RMem.toLoadRect (harg13.unread s.vv), View.readAt (Elt F) arg14.view RAtt.toLoadRect (harg14.unread s.va), View.readAt (Elt F) arg15.view RMem.toLoadRect (harg15.unread s.vo), View.readAt (Elt F) arg16.view RRs.toLoadRect (harg16.unread s.rs)⟩
  have hL : L = loads X := by
    simp only [L, loads, readAt_unread, RBlk, RWp, RSeg, View.ld_unit_zero (S := S1x1x8x4x196x96) z6, View.ld_unit_zero (S := S96x96) z2, View.ld_unit_zero (S := S96x4) z2]
  have hS : S = s := by
    simp only [S, readAt_unread, RMem, RAtt, RRs, View.ld_unit_zero (S := S8x784x96) z3, View.ld_unit_zero (S := S6272x4) z2, View.ld_unit_zero (S := S8x8) z2]
  let R : Vec F S8x8 .f32 := arg16.view.readCov [(⟨RRs, routing L⟩ : View.Piece (Elt F) S8x8 .f32)] RRs.toLoadRect
  have hR : R = routing L := View.readCov_unit_zero (S := S8x8) _ z2 _ _
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    refine (read_whole_store (S := S1x1x8x4x196x96) _ _ z6 _ _).trans ?_
    refine Eq.trans (b := outYWith L (flag i) S R) (by sl_kernel_rfl) ?_
    simp only [hR, hL, hS, rsOf, if_pos hv, outY]
  isplitl [H8]
  · iexists _; isplitr
    swap; · iexact H8
    ipureintro
    refine (View.read_writes_eq_canon _ _ (sumPieces L (flag i) S R) (sum_cover L (flag i) S R)).trans ?_
    simp only [hR, hL, hS, rsOf, if_pos hv, outS]
  isplitl [HS0]
  · iexists _; isplitr
    swap; · iexact HS0
    ipureintro
    refine (read_whole_store (S := S8x784x96) _ _ z3 _ _).trans ?_
    refine Eq.trans (b := (stepWith L (flag i) S R).vq) (by sl_kernel_rfl) ?_
    simp only [hR, hL, hS, rsOf, if_pos hv, step]
  isplitl [HS1]
  · iexists _; isplitr
    swap; · iexact HS1
    ipureintro
    refine (read_whole_store (S := S8x784x96) _ _ z3 _ _).trans ?_
    refine Eq.trans (b := (stepWith L (flag i) S R).vk) (by sl_kernel_rfl) ?_
    simp only [hR, hL, hS, rsOf, if_pos hv, step]
  isplitl [HS2]
  · iexists _; isplitr
    swap; · iexact HS2
    ipureintro
    refine (read_whole_store (S := S8x784x96) _ _ z3 _ _).trans ?_
    refine Eq.trans (b := (stepWith L (flag i) S R).vv) (by sl_kernel_rfl) ?_
    simp only [hR, hL, hS, rsOf, if_pos hv, step]
  isplitl [HS3]
  · iexists _; isplitr
    swap; · iexact HS3
    ipureintro
    refine (read_whole_store (S := S6272x4) _ _ z2 _ _).trans ?_
    refine Eq.trans (b := (stepWith L (flag i) S R).va) (by sl_kernel_rfl) ?_
    simp only [hR, hL, hS, rsOf, if_pos hv, step]
  isplitl [HS4]
  · iexists _; isplitr
    swap; · iexact HS4
    ipureintro
    refine (read_whole_store (S := S8x784x96) _ _ z3 _ _).trans ?_
    refine Eq.trans (b := (stepWith L (flag i) S R).vo) (by sl_kernel_rfl) ?_
    simp only [hR, hL, hS, rsOf, if_pos hv, step]
  iexists _; isplitr
  swap; · iexact HS5
  ipureintro
  refine (read_whole_store (S := S8x8) _ _ z2 _ _).trans ?_
  refine Eq.trans (b := routing L) (by sl_kernel_rfl) ?_
  simp only [hL, rsOf, if_pos hv, step, stepWith]

end Cert.Kernel2Ideal.Attend

end
-- ==== Proof.AttendIdealLater.lean ====
module

public import proofs.«01_k».proof.Proof.AttendIdealStep

/-! The attention call's body at a later time step. -/

@[expose] public section

set_option maxRecDepth 16384

noncomputable section

namespace Cert.Kernel2Ideal.Attend

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 16000000 in
/-- The same at a later time step. -/
theorem body_later (c : Dev nD) (i : grid0.Coords) (arg2 : Memref sig .tc .vmem S1x1x8x4x196x96 .f32) (harg2 : arg2.IsWhole) (arg3 : Memref sig .tc .vmem S1x1x8x4x196x96 .f32) (harg3 : arg3.IsWhole) (arg4 : Memref sig .tc .vmem S1x1x8x4x196x96 .f32) (harg4 : arg4.IsWhole) (arg5 : Memref sig .tc .vmem S1x2x8x96 .f32) (harg5 : arg5.IsWhole) (arg6 : Memref sig .tc .vmem S6x96 .f32) (harg6 : arg6.IsWhole) (arg7 : Memref sig .tc .vmem S96x96 .f32) (harg7 : arg7.IsWhole) (arg8 : Memref sig .tc .vmem S96x4 .f32) (harg8 : arg8.IsWhole) (arg9 : Memref sig .tc .vmem S1x1x8x4x196x96 .f32) (harg9 : arg9.IsWhole) (arg10 : Memref sig .tc .vmem S1x1x2x96 .f32) (harg10 : arg10.IsWhole) (arg11 : Memref sig .tc .vmem S8x784x96 .f32) (harg11 : arg11.IsWhole) (arg12 : Memref sig .tc .vmem S8x784x96 .f32) (harg12 : arg12.IsWhole) (arg13 : Memref sig .tc .vmem S8x784x96 .f32) (harg13 : arg13.IsWhole) (arg14 : Memref sig .tc .vmem S6272x4 .f32) (harg14 : arg14.IsWhole) (arg15 : Memref sig .tc .vmem S8x784x96 .f32) (harg15 : arg15.IsWhole) (arg16 : Memref sig .tc .vmem S8x8 .f32) (harg16 : arg16.IsWhole)
    (hv : ¬ flag i = 1#1)
    (X : Ins F) (s : Carried F) (E : Set ℕ) (K : PUnit → sProp 𝕄) :
    iprop(owns (c : Thread nD τ) arg2 fullShare X.q ∗ owns (c : Thread nD τ) arg3 fullShare X.k ∗ owns (c : Thread nD τ) arg4 fullShare X.v ∗ owns (c : Thread nD τ) arg5 fullShare X.reg ∗ owns (c : Thread nD τ) arg6 fullShare X.aff ∗ owns (c : Thread nD τ) arg7 fullShare X.wp ∗ owns (c : Thread nD τ) arg8 fullShare X.seg ∗ (∃ d, owns (c : Thread nD τ) arg9 fullShare d) ∗ (∃ d, owns (c : Thread nD τ) arg10 fullShare d) ∗ owns (c : Thread nD τ) arg11 fullShare s.vq ∗ owns (c : Thread nD τ) arg12 fullShare s.vk ∗ owns (c : Thread nD τ) arg13 fullShare s.vv ∗ owns (c : Thread nD τ) arg14 fullShare s.va ∗ owns (c : Thread nD τ) arg15 fullShare s.vo ∗ owns (c : Thread nD τ) arg16 fullShare s.rs
        ∗ (iprop(owns (c : Thread nD τ) arg2 fullShare X.q ∗ owns (c : Thread nD τ) arg3 fullShare X.k ∗ owns (c : Thread nD τ) arg4 fullShare X.v ∗ owns (c : Thread nD τ) arg5 fullShare X.reg ∗ owns (c : Thread nD τ) arg6 fullShare X.aff ∗ owns (c : Thread nD τ) arg7 fullShare X.wp ∗ owns (c : Thread nD τ) arg8 fullShare X.seg ∗ owns (c : Thread nD τ) arg9 fullShare (outY X (flag i) s) ∗ owns (c : Thread nD τ) arg10 fullShare (outS X (flag i) s) ∗ owns (c : Thread nD τ) arg11 fullShare (step X (flag i) s).vq ∗ owns (c : Thread nD τ) arg12 fullShare (step X (flag i) s).vk ∗ owns (c : Thread nD τ) arg13 fullShare (step X (flag i) s).vv ∗ owns (c : Thread nD τ) arg14 fullShare (step X (flag i) s).va ∗ owns (c : Thread nD τ) arg15 fullShare (step X (flag i) s).vo ∗ owns (c : Thread nD τ) arg16 fullShare (step X (flag i) s).rs) -∗ K ⟨⟩))
      ⊢ wp frame (wpE (defs₀ (F := F)) Variants.none c none) E (cc0__k3_body i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  have hc0 : ¬ cond0 i := fun h => hv ((cond0_iff i).mp h)
  simp only [cc0__k3_body_eq_skeleton]; unfold cc0__k3_body_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  obtain rfl := harg11.eq_unread hfs0; obtain rfl := harg12.eq_unread hfs1; obtain rfl := harg13.eq_unread hfs2; obtain rfl := harg14.eq_unread hfs3; obtain rfl := harg15.eq_unread hfs4; obtain rfl := harg16.eq_unread hfs5
  let L : Loads F := ⟨View.readAt (Elt F) arg2.view RBlk.toLoadRect (harg2.unread X.q), View.readAt (Elt F) arg3.view RBlk.toLoadRect (harg3.unread X.k), View.readAt (Elt F) arg4.view RBlk.toLoadRect (harg4.unread X.v), View.readAt (Elt F) arg6.view RRow0.toLoadRect (harg6.unread X.aff), View.readAt (Elt F) arg6.view RRow1.toLoadRect (harg6.unread X.aff), View.readAt (Elt F) arg6.view RRow2.toLoadRect (harg6.unread X.aff), View.readAt (Elt F) arg6.view RRow3.toLoadRect (harg6.unread X.aff), View.readAt (Elt F) arg6.view RRow4.toLoadRect (harg6.unread X.aff), View.readAt (Elt F) arg6.view RRow5.toLoadRect (harg6.unread X.aff), View.readAt (Elt F) arg5.view RRegQ.toLoadRect (harg5.unread X.reg), View.readAt (Elt F) arg5.view RRegK.toLoadRect (harg5.unread X.reg), View.readAt (Elt F) arg7.view RWp.toLoadRect (harg7.unread X.wp), View.readAt (Elt F) arg8.view RSeg.toLoadRect (harg8.unread X.seg)⟩
  let S : Carried F := ⟨View.readAt (Elt F) arg11.view RMem.toLoadRect (harg11.unread s.vq), View.readAt (Elt F) arg12.view RMem.toLoadRect (harg12.unread s.vk), View.readAt (Elt F) arg13.view RMem.toLoadRect (harg13.unread s.vv), View.readAt (Elt F) arg14.view RAtt.toLoadRect (harg14.unread s.va), View.readAt (Elt F) arg15.view RMem.toLoadRect (harg15.unread s.vo), View.readAt (Elt F) arg16.view RRs.toLoadRect (harg16.unread s.rs)⟩
  have hL : L = loads X := by
    simp only [L, loads, readAt_unread, RBlk, RWp, RSeg, View.ld_unit_zero (S := S1x1x8x4x196x96) z6, View.ld_unit_zero (S := S96x96) z2, View.ld_unit_zero (S := S96x4) z2]
  have hS : S = s := by
    simp only [S, readAt_unread, RMem, RAtt, RRs, View.ld_unit_zero (S := S8x784x96) z3, View.ld_unit_zero (S := S6272x4) z2, View.ld_unit_zero (S := S8x8) z2]
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr
    swap; · iexact H7
    ipureintro
    refine (read_whole_store (S := S1x1x8x4x196x96) _ _ z6 _ _).trans ?_
    refine Eq.trans (b := outYWith L (flag i) S S.rs) (by sl_kernel_rfl) ?_
    simp only [hL, hS, rsOf, if_neg hv, outY]
  isplitl [H8]
  · iexists _; isplitr
    swap; · iexact H8
    ipureintro
    refine (View.read_writes_eq_canon _ _ (sumPieces L (flag i) S S.rs) (sum_cover L (flag i) S S.rs)).trans ?_
    simp only [hL, hS, rsOf, if_neg hv, outS]
  isplitl [HS0]
  · iexists _; isplitr
    swap; · iexact HS0
    ipureintro
    refine (read_whole_store (S := S8x784x96) _ _ z3 _ _).trans ?_
    refine Eq.trans (b := (stepWith L (flag i) S S.rs).vq) (by sl_kernel_rfl) ?_
    simp only [hL, hS, rsOf, if_neg hv, step]
  isplitl [HS1]
  · iexists _; isplitr
    swap; · iexact HS1
    ipureintro
    refine (read_whole_store (S := S8x784x96) _ _ z3 _ _).trans ?_
    refine Eq.trans (b := (stepWith L (flag i) S S.rs).vk) (by sl_kernel_rfl) ?_
    simp only [hL, hS, rsOf, if_neg hv, step]
  isplitl [HS2]
  · iexists _; isplitr
    swap; · iexact HS2
    ipureintro
    refine (read_whole_store (S := S8x784x96) _ _ z3 _ _).trans ?_
    refine Eq.trans (b := (stepWith L (flag i) S S.rs).vv) (by sl_kernel_rfl) ?_
    simp only [hL, hS, rsOf, if_neg hv, step]
  isplitl [HS3]
  · iexists _; isplitr
    swap; · iexact HS3
    ipureintro
    refine (read_whole_store (S := S6272x4) _ _ z2 _ _).trans ?_
    refine Eq.trans (b := (stepWith L (flag i) S S.rs).va) (by sl_kernel_rfl) ?_
    simp only [hL, hS, rsOf, if_neg hv, step]
  isplitl [HS4]
  · iexists _; isplitr
    swap; · iexact HS4
    ipureintro
    refine (read_whole_store (S := S8x784x96) _ _ z3 _ _).trans ?_
    refine Eq.trans (b := (stepWith L (flag i) S S.rs).vo) (by sl_kernel_rfl) ?_
    simp only [hL, hS, rsOf, if_neg hv, step]
  iexists _; isplitr; · ipureintro; exact (harg16.read_unread _).trans (if_neg hv).symm
  iexact HS5

end Cert.Kernel2Ideal.Attend

end
-- ==== Proof.AttendIdealFrame.lean ====
module

public import proofs.«01_k».proof.Proof.AttendIdealFirst
public import proofs.«01_k».proof.Proof.AttendIdealLater
public import Idealize.ShloMosaic.Lib.Claim

/-!
The attention call as a whole: what its carried arrays hold before each grid point, the run of the program,
that it leaves its arguments unchanged, and what its two results hold.
-/

@[expose] public section

set_option maxRecDepth 16384

noncomputable section

namespace Cert.Kernel2Ideal.Attend

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Carried array 0 as a whole array. -/
abbrev scM0 : Memref sig .tc .vmem S8x784x96 .f32 := Memref.whole cc0_scratch0
/-- Carried array 1 as a whole array. -/
abbrev scM1 : Memref sig .tc .vmem S8x784x96 .f32 := Memref.whole cc0_scratch1
/-- Carried array 2 as a whole array. -/
abbrev scM2 : Memref sig .tc .vmem S8x784x96 .f32 := Memref.whole cc0_scratch2
/-- Carried array 3 as a whole array. -/
abbrev scM3 : Memref sig .tc .vmem S6272x4 .f32 := Memref.whole cc0_scratch3
/-- Carried array 4 as a whole array. -/
abbrev scM4 : Memref sig .tc .vmem S8x784x96 .f32 := Memref.whole cc0_scratch4
/-- Carried array 5 as a whole array. -/
abbrev scM5 : Memref sig .tc .vmem S8x8 .f32 := Memref.whole cc0_scratch5

/-- The arrays as the region finds them: after the operations before it. -/
abbrev V (c : Dev nD) (b : Ref sig .tc) : Buf (Elt F) ((c : Thread nD τ).loc b) := StableHlo.after hostOps0 (fun b => m (c, b)) b

/-- The operations before the region allocate nothing. -/
theorem hostOps0_fresh : (hostOps0 : List (HloOp τ sig (Elt F))).Forall fun op => op.fresh = ∅ := by
  simp only [List.Forall]; repeat' constructor

set_option maxHeartbeats 1600000 in
/-- The program is the operations before the region, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- An array that no operation before the region writes is there as it was. -/
theorem V_keep (c : Dev nD) (b : Ref sig .tc)
    (hb : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp hb)

/-- Argument 0 is not written before the region. -/
theorem V_main_arg0 (c : Dev nD) : V m c main_arg0 = m ((c : Thread nD τ).loc main_arg0) :=
  V_keep m c main_arg0 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 1 is not written before the region. -/
theorem V_main_arg1 (c : Dev nD) : V m c main_arg1 = m ((c : Thread nD τ).loc main_arg1) :=
  V_keep m c main_arg1 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 2 is not written before the region. -/
theorem V_main_arg2 (c : Dev nD) : V m c main_arg2 = m ((c : Thread nD τ).loc main_arg2) :=
  V_keep m c main_arg2 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 3 is not written before the region. -/
theorem V_main_arg3 (c : Dev nD) : V m c main_arg3 = m ((c : Thread nD τ).loc main_arg3) :=
  V_keep m c main_arg3 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 4 is not written before the region. -/
theorem V_main_arg4 (c : Dev nD) : V m c main_arg4 = m ((c : Thread nD τ).loc main_arg4) :=
  V_keep m c main_arg4 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 5 is not written before the region. -/
theorem V_main_arg5 (c : Dev nD) : V m c main_arg5 = m ((c : Thread nD τ).loc main_arg5) :=
  V_keep m c main_arg5 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 6 is not written before the region. -/
theorem V_main_arg6 (c : Dev nD) : V m c main_arg6 = m ((c : Thread nD τ).loc main_arg6) :=
  V_keep m c main_arg6 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 7 is not written before the region. -/
theorem V_main_arg7 (c : Dev nD) : V m c main_arg7 = m ((c : Thread nD τ).loc main_arg7) :=
  V_keep m c main_arg7 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 8 is not written before the region. -/
theorem V_main_arg8 (c : Dev nD) : V m c main_arg8 = m ((c : Thread nD τ).loc main_arg8) :=
  V_keep m c main_arg8 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 9 is not written before the region. -/
theorem V_main_arg9 (c : Dev nD) : V m c main_arg9 = m ((c : Thread nD τ).loc main_arg9) :=
  V_keep m c main_arg9 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 10 is not written before the region. -/
theorem V_main_arg10 (c : Dev nD) : V m c main_arg10 = m ((c : Thread nD τ).loc main_arg10) :=
  V_keep m c main_arg10 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))
/-- Argument 11 is not written before the region. -/
theorem V_main_arg11 (c : Dev nD) : V m c main_arg11 = m ((c : Thread nD τ).loc main_arg11) :=
  V_keep m c main_arg11 (by
    simp only [hostOps0, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The inputs at point `t`. -/
def insAt (c : Dev nD) (t : Fin cfg0.N) : Ins F :=
  ⟨iblk m c 0 t, iblk m c 1 t, iblk m c 2 t, iblk m c 3 t, iblk m c 4 t, iblk m c 5 t, iblk m c 6 t⟩

/-- What the carried arrays hold before point `n`; before the first point nothing is known of them, and nothing read. -/
def stAt (c : Dev nD) : ℕ → Carried F
  | 0 => ⟨fun _ => Scalar.ofBits .f32 0#32, fun _ => Scalar.ofBits .f32 0#32, fun _ => Scalar.ofBits .f32 0#32,
      fun _ => Scalar.ofBits .f32 0#32, fun _ => Scalar.ofBits .f32 0#32, fun _ => Scalar.ofBits .f32 0#32⟩
  | n + 1 => if h : n < cfg0.N then step (insAt m c ⟨n, h⟩) (flag (grid0.coords ⟨n, h⟩)) (stAt c n) else stAt c n

/-- One point takes the carried arrays on by one step. -/
theorem stAt_succ (c : Dev nD) (t : Fin cfg0.N) :
    stAt m c (t.val + 1) = step (insAt m c t) (flag (grid0.coords t)) (stAt m c t.val) := dif_pos t.isLt

/-- The flag is set at the first of every four points. -/
theorem cond0_at : ∀ t : Fin cfg0.N, cond0 (grid0.coords t) ↔ t.val % 4 = 0 :=
  (fun t => by
    have ht : t.val < 8 := Nat.lt_of_lt_of_eq t.isLt N_0
    have e1 : (grid0.coords t 1).val = t.val / 1 % 4 := Pipeline.Grid.coords_val t 1 (by decide) rfl
    simp only [cond0, e1]
    word_cmp
   : ∀ t : Fin grid0.N, cond0 (grid0.coords t) ↔ t.val % 4 = 0)

/-- The same in terms of the flag itself. -/
theorem flag_at (t : Fin cfg0.N) : flag (grid0.coords t) = 1#1 ↔ t.val % 4 = 0 :=
  (cond0_iff _).symm.trans (cond0_at t)

/-- The body at any point and any carried contents. -/
theorem body_at (c : Dev nD) (t : Fin cfg0.N) (X : Ins F) (s : Carried F) (K : PUnit → sProp 𝕄) :
    iprop(owns (c : Thread nD τ) (win0_0.stage (cfg0.slots t 0)) fullShare (X.q) ∗ owns (c : Thread nD τ) (win0_1.stage (cfg0.slots t 1)) fullShare (X.k) ∗ owns (c : Thread nD τ) (win0_2.stage (cfg0.slots t 2)) fullShare (X.v) ∗ owns (c : Thread nD τ) (win0_3.stage (cfg0.slots t 3)) fullShare (X.reg) ∗ owns (c : Thread nD τ) (win0_4.stage (cfg0.slots t 4)) fullShare (X.aff) ∗ owns (c : Thread nD τ) (win0_5.stage (cfg0.slots t 5)) fullShare (X.wp) ∗ owns (c : Thread nD τ) (win0_6.stage (cfg0.slots t 6)) fullShare (X.seg) ∗ (∃ d, owns (c : Thread nD τ) (win0_7.stage (cfg0.slots t 7)) fullShare (d)) ∗ (∃ d, owns (c : Thread nD τ) (win0_8.stage (cfg0.slots t 8)) fullShare (d)) ∗ owns (c : Thread nD τ) scM0 fullShare (s).vq ∗ owns (c : Thread nD τ) scM1 fullShare (s).vk ∗ owns (c : Thread nD τ) scM2 fullShare (s).vv ∗ owns (c : Thread nD τ) scM3 fullShare (s).va ∗ owns (c : Thread nD τ) scM4 fullShare (s).vo ∗ owns (c : Thread nD τ) scM5 fullShare (s).rs
        ∗ (iprop(owns (c : Thread nD τ) (win0_0.stage (cfg0.slots t 0)) fullShare (X.q) ∗ owns (c : Thread nD τ) (win0_1.stage (cfg0.slots t 1)) fullShare (X.k) ∗ owns (c : Thread nD τ) (win0_2.stage (cfg0.slots t 2)) fullShare (X.v) ∗ owns (c : Thread nD τ) (win0_3.stage (cfg0.slots t 3)) fullShare (X.reg) ∗ owns (c : Thread nD τ) (win0_4.stage (cfg0.slots t 4)) fullShare (X.aff) ∗ owns (c : Thread nD τ) (win0_5.stage (cfg0.slots t 5)) fullShare (X.wp) ∗ owns (c : Thread nD τ) (win0_6.stage (cfg0.slots t 6)) fullShare (X.seg) ∗ owns (c : Thread nD τ) (win0_7.stage (cfg0.slots t 7)) fullShare (outY X (flag (grid0.coords t)) s) ∗ owns (c : Thread nD τ) (win0_8.stage (cfg0.slots t 8)) fullShare (outS X (flag (grid0.coords t)) s) ∗ owns (c : Thread nD τ) scM0 fullShare (step X (flag (grid0.coords t)) s).vq ∗ owns (c : Thread nD τ) scM1 fullShare (step X (flag (grid0.coords t)) s).vk ∗ owns (c : Thread nD τ) scM2 fullShare (step X (flag (grid0.coords t)) s).vv ∗ owns (c : Thread nD τ) scM3 fullShare (step X (flag (grid0.coords t)) s).va ∗ owns (c : Thread nD τ) scM4 fullShare (step X (flag (grid0.coords t)) s).vo ∗ owns (c : Thread nD τ) scM5 fullShare (step X (flag (grid0.coords t)) s).rs) -∗ K ⟨⟩))
      ⊢ wp frame (wpE (defs₀ (F := F)) Variants.none c none) Set.univ (bodyAt0 t) K := by
  by_cases hv : flag (grid0.coords t) = 1#1
  · exact body_first c (grid0.coords t) _ _ _ _ _ _ _ _ _ _ _ _ _ _ _ _ _ _ _ _ _ _ _ _ _ _ _ _ _ _ hv X s Set.univ K
  · exact body_later c (grid0.coords t) _ _ _ _ _ _ _ _ _ _ _ _ _ _ _ _ _ _ _ _ _ _ _ _ _ _ _ _ _ _ hv X s Set.univ K

/-- What holds of the carried arrays between points: before the first anything, later the contents `stAt`. -/
def PhiS (c : Dev nD) : (n : ℕ) → sProp 𝕄
  | 0 => Pipeline.ΦA spec0 c
  | n + 1 => iprop(iprop(owns (c : Thread nD τ) scM0 fullShare (stAt m c (n + 1)).vq ∗ owns (c : Thread nD τ) scM1 fullShare (stAt m c (n + 1)).vk ∗ owns (c : Thread nD τ) scM2 fullShare (stAt m c (n + 1)).vv ∗ owns (c : Thread nD τ) scM3 fullShare (stAt m c (n + 1)).va ∗ owns (c : Thread nD τ) scM4 fullShare (stAt m c (n + 1)).vo ∗ owns (c : Thread nD τ) scM5 fullShare (stAt m c (n + 1)).rs) ∗ (∃ r, prngReg c r))

/-- The first of these with the carried arrays listed. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d) ∗ (∃ d, owns (c : Thread nD τ) scM5 fullShare d)) ∗ (∃ r, prngReg c r)) := by
  unfold Pipeline.ΦA; rw [scopedRest0_eq]; simp only [scM0, scM1, scM2, scM3, scM4, scM5, owns_whole]; rfl

/-- After the first point it is the contents `stAt`. -/
theorem PhiS_pos (c : Dev nD) (n : ℕ) (hz : n ≠ 0) :
    PhiS m c n = iprop(iprop(owns (c : Thread nD τ) scM0 fullShare (stAt m c n).vq ∗ owns (c : Thread nD τ) scM1 fullShare (stAt m c n).vk ∗ owns (c : Thread nD τ) scM2 fullShare (stAt m c n).vv ∗ owns (c : Thread nD τ) scM3 fullShare (stAt m c n).va ∗ owns (c : Thread nD τ) scM4 fullShare (stAt m c n).vo ∗ owns (c : Thread nD τ) scM5 fullShare (stAt m c n).rs) ∗ (∃ r, prngReg c r)) := by
  cases n with
  | zero => exact absurd rfl hz
  | succ n => rfl

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outY (insAt m c t) (flag (grid0.coords t)) (stAt m c t.val)
    | ⟨8, _⟩ => outS (insAt m c t) (flag (grid0.coords t)) (stAt m c t.val)
  Φ t := PhiS m c t.val
  q _ := fullShare
  owed _ := 0

/-- The arrays the pipeline starts from are those the region finds. -/
theorem A_eq (c : Dev nD) (w : Fin cfg0.W) : (dats m 0 c).A w = V m c (Pipeline.arrRef spec0 w) := by
  dsimp only [dats]
/-- Input 0 is left as it was. -/
theorem after_0 (c : Dev nD) (t : Fin cfg0.N) : (dats m 0 c).after 0 t = iblk m c 0 t := by dsimp only [dats]
/-- Input 1 is left as it was. -/
theorem after_1 (c : Dev nD) (t : Fin cfg0.N) : (dats m 0 c).after 1 t = iblk m c 1 t := by dsimp only [dats]
/-- Input 2 is left as it was. -/
theorem after_2 (c : Dev nD) (t : Fin cfg0.N) : (dats m 0 c).after 2 t = iblk m c 2 t := by dsimp only [dats]
/-- Input 3 is left as it was. -/
theorem after_3 (c : Dev nD) (t : Fin cfg0.N) : (dats m 0 c).after 3 t = iblk m c 3 t := by dsimp only [dats]
/-- Input 4 is left as it was. -/
theorem after_4 (c : Dev nD) (t : Fin cfg0.N) : (dats m 0 c).after 4 t = iblk m c 4 t := by dsimp only [dats]
/-- Input 5 is left as it was. -/
theorem after_5 (c : Dev nD) (t : Fin cfg0.N) : (dats m 0 c).after 5 t = iblk m c 5 t := by dsimp only [dats]
/-- Input 6 is left as it was. -/
theorem after_6 (c : Dev nD) (t : Fin cfg0.N) : (dats m 0 c).after 6 t = iblk m c 6 t := by dsimp only [dats]
/-- What a point leaves of the projected array. -/
theorem after_7 (c : Dev nD) (t : Fin cfg0.N) : (dats m 0 c).after 7 t = outY (insAt m c t) (flag (grid0.coords t)) (stAt m c t.val) := by dsimp only [dats]
/-- What a point leaves of the sums. -/
theorem after_8 (c : Dev nD) (t : Fin cfg0.N) : (dats m 0 c).after 8 t = outS (insAt m c t) (flag (grid0.coords t)) (stAt m c t.val) := by dsimp only [dats]

/-- Input 0's staging buffer holds its block at every point. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]) t d).trans
    (by unfold Dat.fetched Dat.blockOf iblk; rw [A_eq]; try rfl)
/-- Input 1's staging buffer holds its block at every point. -/
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]) t d).trans
    (by unfold Dat.fetched Dat.blockOf iblk; rw [A_eq]; try rfl)
/-- Input 2's staging buffer holds its block at every point. -/
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]) t d).trans
    (by unfold Dat.fetched Dat.blockOf iblk; rw [A_eq]; try rfl)
/-- Input 3's staging buffer holds its block at every point. -/
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]) t d).trans
    (by unfold Dat.fetched Dat.blockOf iblk; rw [A_eq]; try rfl)
/-- Input 4's staging buffer holds its block at every point. -/
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]) t d).trans
    (by unfold Dat.fetched Dat.blockOf iblk; rw [A_eq]; try rfl)
/-- Input 5's staging buffer holds its block at every point. -/
theorem before_5 (c : Dev nD) (t : Fin cfg0.N) (d) : (dats m 0 c).before 5 t d = iblk m c 5 t :=
  ((dats m 0 c).before_in_eq_fetched 5 rfl (fun _ => rfl) (fun _ _ _ => rfl)
      (fun t => by rw [after_5]; unfold Dat.blockOf iblk; rw [A_eq]) t d).trans
    (by unfold Dat.fetched Dat.blockOf iblk; rw [A_eq]; try rfl)
/-- Input 6's staging buffer holds its block at every point. -/
theorem before_6 (c : Dev nD) (t : Fin cfg0.N) (d) : (dats m 0 c).before 6 t d = iblk m c 6 t :=
  ((dats m 0 c).before_in_eq_fetched 6 rfl (fun _ => rfl) (fun _ _ _ => rfl)
      (fun t => by rw [after_6]; unfold Dat.blockOf iblk; rw [A_eq]) t d).trans
    (by unfold Dat.fetched Dat.blockOf iblk; rw [A_eq]; try rfl)

set_option maxHeartbeats 9600000 in
/-- The body at any point, from what the pipeline hands it to what it takes back. -/
theorem sound_body (c : Dev nD) (t : Fin cfg0.N) :
    iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)))
      ⊢ wp frame (wpE (defs₀ (F := F)) Variants.none c none) Set.univ (bodyAt0 t)
        (fun _ => iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t))) := by
  simp only [before_0, before_1, before_2, before_3, before_4, before_5, before_6]
  rw [show (dats m 0 c).owesAt () t.succ = (dats m 0 c).owesAt () t.castSucc from rfl,
    after_0, after_1, after_2, after_3, after_4, after_5, after_6, after_7, after_8]
  rw [show (dats m 0 c).Φ t.succ = PhiS m c (t.val + 1) from rfl, show (dats m 0 c).Φ t.castSucc = PhiS m c t.val from rfl,
    PhiS_pos m c (t.val + 1) (Nat.succ_ne_zero _), stAt_succ]
  by_cases hz : t.val = 0
  · have hf : flag (grid0.coords t) = 1#1 := (flag_at t).mpr (by rw [hz])
    rw [show PhiS m c t.val = Pipeline.ΦA spec0 c from by rw [hz]; rfl, PhiA_eq]
    have e1 : ∀ s, step (insAt m c t) (flag (grid0.coords t)) (stAt m c t.val) = step (insAt m c t) (flag (grid0.coords t)) s := fun s => by
      rw [hf]; exact step_first _ _ _
    have e2 : ∀ s, outY (insAt m c t) (flag (grid0.coords t)) (stAt m c t.val) = outY (insAt m c t) (flag (grid0.coords t)) s := fun s => by
      rw [hf]; exact outY_first _ _ _
    have e3 : ∀ s, outS (insAt m c t) (flag (grid0.coords t)) (stAt m c t.val) = outS (insAt m c t) (flag (grid0.coords t)) s := fun s => by
      rw [hf]; exact outS_first _ _ _
    generalize step (insAt m c t) (flag (grid0.coords t)) (stAt m c t.val) = A at e1 ⊢
    generalize outY (insAt m c t) (flag (grid0.coords t)) (stAt m c t.val) = B at e2 ⊢
    generalize outS (insAt m c t) (flag (grid0.coords t)) (stAt m c t.val) = C at e3 ⊢
    iintro ⟨⟨⟨⟨%s0, HS0⟩, ⟨%s1, HS1⟩, ⟨%s2, HS2⟩, ⟨%s3, HS3⟩, ⟨%s4, HS4⟩, ⟨%s5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_at c t (insAt m c t) ⟨s0, s1, s2, s3, s4, s5⟩)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    rw [← e1 ⟨s0, s1, s2, s3, s4, s5⟩, ← e2 ⟨s0, s1, s2, s3, s4, s5⟩, ← e3 ⟨s0, s1, s2, s3, s4, s5⟩]
    iintro ⟨H0, H1, H2, H3, H4, H5, H6, H7, H8, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos m c _ hz]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (body_at c t (insAt m c t) (stAt m c t.val))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

/-- The body's row of the table at point `t`. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- Before the first point nothing is asked of the carried arrays. -/
theorem hin (c : Dev nD) : Pipeline.ΦA spec0 c ⊢ (dats m 0 c).Φ 0 := by
  rw [show (dats m 0 c).Φ 0 = Pipeline.ΦA spec0 c from rfl]

/-- After the last point the carried arrays are given back at some contents. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 8 from N_0]; decide), PhiA_eq]
  iintro ⟨⟨HS0, HS1, HS2, HS3, HS4, HS5⟩, Hg⟩
  isplitl [HS0 HS1 HS2 HS3 HS4 HS5]
  · isplitl [HS0]; · iexists _; iexact HS0
    isplitl [HS1]; · iexists _; iexact HS1
    isplitl [HS2]; · iexists _; iexact HS2
    isplitl [HS3]; · iexists _; iexact HS3
    isplitl [HS4]; · iexists _; iexact HS4
    iexists _; iexact HS5
  iexact Hg

set_option backward.isDefEq.respectTransparency.types false in
/-- The run of the whole program: it ends, the arrays are what the grid points leave, every counter is at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The arguments after the run. -/
theorem args_keep (c : Dev nD) {r : _ × _} (h : Pipeline.FramePost cfgs (dats m) 0 (V m) r) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  ⟨((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c)⟩

/-- The program runs, its arguments end unchanged, and every counter reads zero at the end. -/
theorem frame : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => args_keep m c h.1, h.2⟩) (run_main_quiescent m ρ)

end Cert.Kernel2Ideal.Attend

end
-- ==== Proof.lean ====
/- The certificate: the safety statements come from the generated frames, those of the second call from its own frame;
   the first value statement
   sets the five arrays the first launch leaves beside the five arrays of its reference, the second
   sets the array the last launch leaves, laid out as the result, beside its reference. -/

module

public import proofs.«01_k».proof.Proof.Gen.Kernel2.Launch
public import proofs.«01_k».proof.Proof.Gen.Kernel2.Skeleton
public import proofs.«01_k».proof.Proof.Gen.Kernel2.Points
public import proofs.«01_k».proof.Proof.Gen.Kernel2Ideal.Launch
public import proofs.«01_k».proof.Proof.Gen.Kernel2Ideal.Skeleton
public import proofs.«01_k».proof.Proof.Gen.Kernel2Ideal.Points
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.KernelIdeal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_finite3
public import proofs.«01_k».proof.Proof.Centre
public import proofs.«01_k».proof.Proof.OutputValue
public import proofs.«01_k».proof.Proof.AttendFrame
public import proofs.«01_k».proof.Proof.AttendIdealFrame
public import Idealize.ShloMosaic.Adequacy
public import Idealize.ShloMosaic.Init

@[expose] public section

noncomputable section

namespace Cert.Proof

open Idealize.ShloMosaic Idealize.SL.Sem Cert.KernelIdeal.First Cert.ReferenceIdeal.Conv Cert.Centre

/-- From memories that agree on the three arguments, the images and the 27 taps' weights finite, both programs end, and the
    five arrays of the kernel are the five arrays of the reference; both leave the arguments alone. -/
theorem values : Cert.algebraic_KernelIdeal_ReferenceIdeal_pre_finite := by
  intro m g m' g' hfin hag
  refine ⟨fun c => winArr (qf m c), fun c => winArr (kf m c), fun c => winArr (xf m c), fun c => rowArr6 (qf m c) (kf m c) (xf m c),
    fun c => rowArr8 (qf m c) (kf m c), ?_, ?_⟩
  · refine (θ_run Cert.KernelIdeal.defs _ _).mono (fun _ h c => ?_) (Cert.KernelIdeal.Value.run_blocks m g)
    obtain ⟨h0, h1, h2, h3, h4, hr⟩ := h c
    exact ⟨h0.trans (final3 m c), h1.trans (final4 m c), h2.trans (final5 m c), h3.trans (final6 m c), h4.trans (final7 m c), hr⟩
  · refine (θ_run Cert.ReferenceIdeal.defs _ _).mono (fun _ h c => ?_) (Cert.ReferenceIdeal.Value.run m' g')
    obtain ⟨h0, h1, h2, h3, h4, hr⟩ := h c
    have e0 : arg0 (StableHlo.launchContents m' c) = a0 m c := (hag c).1
    have e1 : wgt0 (StableHlo.launchContents m' c) = a1 m c := (hag c).2.1
    have e2 : w2 (StableHlo.launchContents m' c) = a2 m c := (hag c).2.2
    obtain ⟨f0, f1⟩ := args_finite _ _ _ (hfin c)
    have q := q_eq m (StableHlo.launchContents m' c) c e0 e1 (fun i => by rw [e0]; exact f0 i) (fun i => by rw [e1]; exact f1 i)
    have k := k_eq m (StableHlo.launchContents m' c) c e0 e2
    have x := x_eq m (StableHlo.launchContents m' c) c e0
    dsimp only
    rw [q, k, x]
    refine ⟨h0.trans (wins_eq _), h1.trans (wins_eq _), h2.trans (wins_eq _), h3.trans (st_eq _ _ _), h4.trans ?_, hr⟩
    refine Eq.trans ?_ (reg_eq _ _)
    rw [← wins_eq, ← wins_eq]

/-- From memories that agree on the four arguments, all entries finite and every channel's variance positive, the last
    call's program and its reference end with the same array, and both leave the arguments alone. -/
theorem values3 : Cert.algebraic_Kernel3Ideal_Reference3Ideal_pre_finite3 := by
  intro m g m' g' hfin hag
  refine ⟨fun c => Pipeline.afterTail₀ Cert.Kernel3Ideal.cfgs (Cert.Kernel3Ideal.Gen.dats m) 0 (Cert.Kernel3Ideal.Gen.V0 m)
    [Cert.Kernel3Ideal.Gen.hostOps1] c Cert.Kernel3Ideal.main_v0, ?_, ?_⟩
  · refine (θ_run Cert.Kernel3Ideal.defs _ _).mono (fun _ h c => ?_) (θ_run_and (Cert.Kernel3Ideal.Gen.run_main m g) (Cert.Kernel3Ideal.Gen.unchanged m g))
    exact ⟨(h.1 c).2 Cert.Kernel3Ideal.main_v0 (Pipeline.mem_restRefs_of Cert.Kernel3Ideal.main_v0 (by decide) (by decide)), h.2 c⟩
  · refine (θ_run Cert.Reference3Ideal.defs _ _).mono (fun _ h c => ?_) (Cert.Reference3Ideal.Value.run m' g')
    obtain ⟨h0, hr⟩ := h c
    obtain ⟨e0, e1, e2, e3⟩ := hag c
    obtain ⟨⟨f0, f1, f2, f3⟩, hp⟩ := Cert.OutputValue.args_finite _ _ _ _ (hfin c)
    refine ⟨?_, hr⟩
    dsimp only
    rw [Cert.Kernel3Ideal.Last.tail m c, h0, e0, e1, e2, e3,
      Cert.OutputValue.norm_eq _ _ _ _ _ (Cert.Kernel3Ideal.Last.aff_scale m c) (Cert.Kernel3Ideal.Last.aff_shift m c) f0 f1 f2 f3 hp]

/-- Everything claimed: each program runs to its end, its arguments unchanged, and the results of the first and of the last call are
    their references'. -/
theorem claim : Cert.Claim := ⟨Cert.Kernel.Gen.facts, Cert.KernelIdeal.Gen.facts, Cert.ReferenceIdeal.Gen.facts,
    Cert.Kernel2.Gen.facts, Cert.Kernel2Ideal.Gen.facts, Cert.Kernel3.Gen.facts, Cert.Kernel3Ideal.Gen.facts, Cert.Reference3Ideal.Gen.facts, Cert.Pre_finite.Gen.facts, Cert.Pre_finite3.Gen.facts, by
  refine ⟨?_, ?_, ?_, ?_, ?_, ?_, ?_, ?_, ?_, ?_, ?_, ?_, trivial, values, IdealRules.named_const.statement _ _ _ _ _ rfl, trivial, values3⟩
  · exact fun m ρ _ => Cert.Kernel.Gen.frame m ρ
  · exact fun m ρ _ => Cert.KernelIdeal.Gen.frame m ρ
  · exact fun m ρ _ => Cert.KernelIdeal.Gen.frame m ρ
  · exact fun m ρ _ => (θ_run Cert.ReferenceIdeal.defs _ _).mono (fun r h => ⟨fun c => (h c).2.2.2.2.2, sem_eq_zero_of_no_sems (by decide) r.2⟩) (Cert.ReferenceIdeal.Value.run m ρ)
  · exact fun m ρ _ => (θ_run Cert.ReferenceIdeal.defs _ _).mono (fun r h => ⟨fun c => (h c).2.2.2.2.2, sem_eq_zero_of_no_sems (by decide) r.2⟩) (Cert.ReferenceIdeal.Value.run m ρ)
  · exact fun m ρ _ => Cert.Kernel2.Attend.frame m ρ
  · exact fun m ρ _ => Cert.Kernel2Ideal.Attend.frame m ρ
  · exact fun m ρ _ => Cert.Kernel3.Gen.frame m ρ
  · exact fun m ρ _ => Cert.Kernel3Ideal.Gen.frame m ρ
  · exact fun m ρ _ => Cert.Kernel3Ideal.Gen.frame m ρ
  · exact fun m ρ _ => (θ_run Cert.Reference3Ideal.defs _ _).mono (fun r h => ⟨fun c => (h c).2, sem_eq_zero_of_no_sems (by decide) r.2⟩) (Cert.Reference3Ideal.Value.run m ρ)
  · exact fun m ρ _ => (θ_run Cert.Reference3Ideal.defs _ _).mono (fun r h => ⟨fun c => (h c).2, sem_eq_zero_of_no_sems (by decide) r.2⟩) (Cert.Reference3Ideal.Value.run m ρ)⟩

end Cert.Proof

end
